-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gate_arguments_finite [hPre_gate_arguments_finite : Cert.Pre_gate_arguments_finite.Facts] (m : (ℓ : Loc Cert.KernelIdeal.nD Cert.KernelIdeal.τ Cert.KernelIdeal.sig) → Buf (Elt Ideal) ℓ) : Prop :=
  ∀ c : Dev Cert.KernelIdeal.nD,
    (Cert.Pre_gate_arguments_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gate_arguments_finite [hPre_gate_arguments_finite : Cert.Pre_gate_arguments_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gate_arguments_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_gate_arguments_finite [hKernelIdeal : Cert.KernelIdeal.Facts] [hPre_gate_arguments_finite : Cert.Pre_gate_arguments_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gate_arguments_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_gate_arguments_finite [hReferenceIdeal : Cert.ReferenceIdeal.Facts] [hPre_gate_arguments_finite : Cert.Pre_gate_arguments_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gate_arguments_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_gate_arguments_finite [hKernelIdeal : Cert.KernelIdeal.Facts] [hReferenceIdeal : Cert.ReferenceIdeal.Facts] [hPre_gate_arguments_finite : Cert.Pre_gate_arguments_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gate_arguments_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_gate_arguments_finite : Cert.Pre_gate_arguments_finite.Facts),
    quiescent_Kernel (hKernel := hKernel)
    ∧ quiescent_KernelIdeal (hKernelIdeal := hKernelIdeal)
    ∧ quiescent_KernelIdeal_pre_gate_arguments_finite (hKernelIdeal := hKernelIdeal) (hPre_gate_arguments_finite := hPre_gate_arguments_finite)
    ∧ quiescent_ReferenceIdeal (hReferenceIdeal := hReferenceIdeal)
    ∧ quiescent_ReferenceIdeal_pre_gate_arguments_finite (hReferenceIdeal := hReferenceIdeal) (hPre_gate_arguments_finite := hPre_gate_arguments_finite)
    ∧ preserves_Kernel_KernelIdeal
    ∧ algebraic_KernelIdeal_ReferenceIdeal_pre_gate_arguments_finite (hKernelIdeal := hKernelIdeal) (hReferenceIdeal := hReferenceIdeal) (hPre_gate_arguments_finite := hPre_gate_arguments_finite)
-- ==== Pre_gate_arguments_finite.lean ====
abbrev S8192x768 : Shape := ⟨2, ![8192, 768]⟩
abbrev S768x8 : Shape := ⟨2, ![768, 8]⟩
abbrev S8 : Shape := ⟨1, ![8]⟩
abbrev S8x768x64 : Shape := ⟨3, ![8, 768, 64]⟩
abbrev S8x64 : Shape := ⟨2, ![8, 64]⟩
abbrev S8x64x768 : Shape := ⟨3, ![8, 64, 768]⟩
abbrev S8x768 : Shape := ⟨2, ![8, 768]⟩
abbrev S_ : Shape := ⟨0, ![]⟩

class Facts : Prop where
  bcast_S_S8192x768 : S_.BroadcastsInDim S8192x768 (![] : Fin 0 → Fin S8192x768.rank)
  reducesTo_S8192x768_S_d0_1 : S8192x768.ReducesTo [0, 1] S_
  h_S_ : 0 < S_.numel
  bcast_S_S768x8 : S_.BroadcastsInDim S768x8 (![] : Fin 0 → Fin S768x8.rank)
  reducesTo_S768x8_S_d0_1 : S768x8.ReducesTo [0, 1] S_
  bcast_S_S8 : S_.BroadcastsInDim S8 (![] : Fin 0 → Fin S8.rank)
  reducesTo_S8_S_d0 : S8.ReducesTo [0] S_

variable [Facts]

def fn {F : FTy → Type} [FloatOps F] (main_arg0 : FVec F S8192x768 .f32) (main_arg1 : FVec F S768x8 .f32) (main_arg2 : FVec F S8 .f32) (main_arg3 : FVec F S8x768x64 .f32) (main_arg4 : FVec F S8x64 .f32) (main_arg5 : FVec F S8x64x768 .f32) (main_arg6 : FVec F S8x768 .f32) : IVec S_ 1 :=
  let main_v0 : FVec F S8192x768 .f32 := Host.absf main_arg0
  let main_cst : FVec F S_ .f32 := constant S_ .f32 0x7F800000#32
  let main_v1 : FVec F S8192x768 .f32 := broadcastInDim S8192x768 ![] bcast_S_S8192x768 main_cst
  let main_v2 : IVec S8192x768 1 := cmpf .olt main_v0 main_v1
  let main_c : IVec S_ 1 := constantI S_ 1 1#1
  let main_v3 : IVec S_ 1 := (fun x v => Host.reduce IntOp.andi x v reducesTo_S8192x768_S_d0_1 h_S_) main_v2 main_c
  let main_v4 : FVec F S768x8 .f32 := Host.absf main_arg1
  let main_cst_0 : FVec F S_ .f32 := constant S_ .f32 0x7F800000#32
  let main_v5 : FVec F S768x8 .f32 := broadcastInDim S768x8 ![] bcast_S_S768x8 main_cst_0
  let main_v6 : IVec S768x8 1 := cmpf .olt main_v4 main_v5
  let main_c_1 : IVec S_ 1 := constantI S_ 1 1#1
  let main_v7 : IVec S_ 1 := (fun x v => Host.reduce IntOp.andi x v reducesTo_S768x8_S_d0_1 h_S_) main_v6 main_c_1
  let main_v8 : IVec S_ 1 := andi main_v3 main_v7
  let main_v9 : FVec F S8 .f32 := Host.absf main_arg2
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  main_v13
-- ==== Kernel.lean ====
abbrev S8192x768 : Shape := ⟨2, ![8192, 768]⟩
abbrev S768x8 : Shape := ⟨2, ![768, 8]⟩
abbrev S8 : Shape := ⟨1, ![8]⟩
abbrev S8x768x64 : Shape := ⟨3, ![8, 768, 64]⟩
abbrev S8x64 : Shape := ⟨2, ![8, 64]⟩
abbrev S8x64x768 : Shape := ⟨3, ![8, 64, 768]⟩
abbrev S8x768 : Shape := ⟨2, ![8, 768]⟩
abbrev S512x768 : Shape := ⟨2, ![512, 768]⟩
abbrev S768x512 : Shape := ⟨2, ![768, 512]⟩
abbrev S1x512 : Shape := ⟨2, ![1, 512]⟩
abbrev S8x512 : Shape := ⟨2, ![8, 512]⟩
abbrev S13 : Shape := ⟨1, ![13]⟩
abbrev S1 : Shape := ⟨1, ![1]⟩
abbrev S_ : Shape := ⟨0, ![]⟩
abbrev S64x768 : Shape := ⟨2, ![64, 768]⟩
abbrev S1x64x768 : Shape := ⟨3, ![1, 64, 768]⟩
abbrev S1x768x64 : Shape := ⟨3, ![1, 768, 64]⟩
abbrev S768x64 : Shape := ⟨2, ![768, 64]⟩
abbrev S1x64 : Shape := ⟨2, ![1, 64]⟩
abbrev S64 : Shape := ⟨1, ![64]⟩
abbrev S512 : Shape := ⟨1, ![512]⟩
abbrev S2x2048x768 : Shape := ⟨3, ![2, 2048, 768]⟩
abbrev S2 : Shape := ⟨1, ![2]⟩
abbrev S1x2048x768 : Shape := ⟨3, ![1, 2048, 768]⟩
abbrev S2048x768 : Shape := ⟨2, ![2048, 768]⟩
abbrev S2048x8 : Shape := ⟨2, ![2048, 8]⟩
abbrev S1x8 : Shape := ⟨2, ![1, 8]⟩
abbrev S2048 : Shape := ⟨1, ![2048]⟩
abbrev S2048x1 : Shape := ⟨2, ![2048, 1]⟩
abbrev S2048x512 : Shape := ⟨2, ![2048, 512]⟩

abbrev nBuf : Space → Nat
  | .hbm => 8
  | .vmem => 14
  | .smem => 0
  | _ => 0

abbrev bufTy : (tb : Table) → Fin (tcTables nBuf tb) → BufTy
  | .hbm, ⟨0, _⟩ => ⟨S8192x768, .f32⟩
  | .hbm, ⟨1, _⟩ => ⟨S768x8, .f32⟩
  | .hbm, ⟨2, _⟩ => ⟨S8, .f32⟩
  | .hbm, ⟨3, _⟩ => ⟨S8x768x64, .f32⟩
  | .hbm, ⟨4, _⟩ => ⟨S8x64, .f32⟩
  | .hbm, ⟨5, _⟩ => ⟨S8x64x768, .f32⟩
  | .hbm, ⟨6, _⟩ => ⟨S8x768, .f32⟩
  | .hbm, ⟨7, _⟩ => ⟨S8192x768, .f32⟩
  | .local _ .vmem, ⟨0, _⟩ => ⟨S768x8, .f32⟩
  | .local _ .vmem, ⟨1, _⟩ => ⟨S8, .f32⟩
  | .local _ .vmem, ⟨2, _⟩ => ⟨S8x768x64, .f32⟩
  | .local _ .vmem, ⟨3, _⟩ => ⟨S8x64, .f32⟩
  | .local _ .vmem, ⟨4, _⟩ => ⟨S512x768, .f32⟩
  | .local _ .vmem, ⟨5, _⟩ => ⟨S8x768, .f32⟩
  | .local _ .vmem, ⟨6, _⟩ => ⟨S768x8, .bf16⟩
  | .local _ .vmem, ⟨7, _⟩ => ⟨S768x512, .bf16⟩
  | .local _ .vmem, ⟨8, _⟩ => ⟨S1x512, .bf16⟩
  | .local _ .vmem, ⟨9, _⟩ => ⟨S512x768, .bf16⟩
  | .local _ .vmem, ⟨10, _⟩ => ⟨S8x768, .bf16⟩
  | .local _ .vmem, ⟨11, _⟩ => ⟨S8x512, .bf16⟩
  | .local _ .vmem, ⟨12, _⟩ => ⟨S2x2048x768, .f32⟩
  | .local _ .vmem, ⟨13, _⟩ => ⟨S2x2048x768, .f32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev cc0_scratch11 : Ref sig .tc := ⟨.vmem, 11, rfl⟩
abbrev cc0_scoped0 : Ref sig .tc := ⟨.vmem, 12, rfl⟩
abbrev cc0_scoped2 : Ref sig .tc := ⟨.vmem, 13, rfl⟩

abbrev nD : Nat := 1
abbrev τ : Topo := Topo.v7x

variable {F : FTy → Type} [FloatOps F]

abbrev grid0 : Pipeline.Grid := .none

def k0_off1 : Fin 1 → Nat :=
  let c0_i32_159_r0 : BitVec 32 := 0#32
  let c2_i32_160_r0 : BitVec 32 := 2#32
  let v206_r0 : BitVec 32 := Scalar.remui c0_i32_159_r0 c2_i32_160_r0
  ![v206_r0.toNat]
def k0_off2 : Fin 3 → Nat :=
  let c0_i32_159_r0 : BitVec 32 := 0#32
  let c2_i32_160_r0 : BitVec 32 := 2#32
  let v206_r0 : BitVec 32 := Scalar.remui c0_i32_159_r0 c2_i32_160_r0
  let c0_i32_161_r0 : BitVec 32 := 0#32
  let c0_i32_162_r0 : BitVec 32 := 0#32
  ![v206_r0.toNat, 0, 0]
@[reducible] def k0_t1_loop : Scf.Loop 32 :=
  let c0_i32_171_r0 : BitVec 32 := 0#32
  let c4_i32_172_r0 : BitVec 32 := 4#32
  let v213_r0 : BitVec 32 := Scalar.addi c0_i32_171_r0 c4_i32_172_r0
  let c1_i32_173_r0 : BitVec 32 := 1#32
  ⟨c0_i32_171_r0, v213_r0, c1_i32_173_r0⟩
def k0_off3 (arg22_r0 : BitVec 32) : Fin 1 → Nat :=
  let c2_i32_271_r0 : BitVec 32 := 2#32
  let v363_r0 : BitVec 32 := Scalar.remui arg22_r0 c2_i32_271_r0
  ![v363_r0.toNat]
def k0_cond1 (k0_t1 : Fin k0_t1_loop.trips) (arg26_r0 : BitVec 32) : BitVec 1 :=
  let c0_i32_201_r0 : BitVec 32 := 0#32
  let v244_r0 : BitVec 32 := Scalar.addi arg26_r0 c0_i32_201_r0
  let true_208_r0 : BitVec 1 := 1#1
  let c1_i32_207_r0 : BitVec 32 := 1#32
  let v250_r0 : BitVec 32 := Scalar.addi arg26_r0 c1_i32_207_r0
  let v251_r0 : BitVec 32 := Scalar.select true_208_r0 v250_r0 arg26_r0
  let c4_i32_209_r0 : BitVec 32 := 4#32
  let v252_r0 : BitVec 1 := Scalar.cmpi .eq v251_r0 c4_i32_209_r0
  let c0_i32_210_r0 : BitVec 32 := 0#32
  let v253_r0 : BitVec 32 := Scalar.select v252_r0 c0_i32_210_r0 v251_r0
  let c0_i32_211_r0 : BitVec 32 := 0#32
  let v254_r0 : BitVec 32 := Scalar.addi v253_r0 c0_i32_211_r0
  let v260_r0 : BitVec 1 := Scalar.cmpi .ne v244_r0 v254_r0
  let c0_i32_171_r0 : BitVec 32 := 0#32
  let c1_i32_173_r0 : BitVec 32 := 1#32
  let arg21_r0 : BitVec 32 := Scf.iv c0_i32_171_r0 c1_i32_173_r0 k0_t1
  let c3_i32_217_r0 : BitVec 32 := 3#32
  let v261_r0 : BitVec 1 := Scalar.cmpi .sge arg21_r0 c3_i32_217_r0
  let true_218_r0 : BitVec 1 := 1#1
  let v262_r0 : BitVec 1 := Scalar.xori v261_r0 true_218_r0
  let v263_r0 : BitVec 1 := Scalar.andi v260_r0 v262_r0
  let true_219_r0 : BitVec 1 := 1#1
  let v264_r0 : BitVec 1 := Scalar.andi v263_r0 true_219_r0
  let v265_r0 : BitVec 32 := Scalar.extui v264_r0
  let c0_i32_220_r0 : BitVec 32 := 0#32
  let v266_r0 : BitVec 1 := Scalar.cmpi .ne v265_r0 c0_i32_220_r0
  v266_r0

def k0_off4 (arg22_r0 : BitVec 32) : Fin 3 → Nat :=
  let c2_i32_271_r0 : BitVec 32 := 2#32
  let v363_r0 : BitVec 32 := Scalar.remui arg22_r0 c2_i32_271_r0
  let c0_i32_273_r0 : BitVec 32 := 0#32
  let c0_i32_274_r0 : BitVec 32 := 0#32
  ![v363_r0.toNat, 0, 0]
def k0_off5 (arg26_r0 : BitVec 32) : Fin 2 → Nat :=
  let c2048_i32_272_r0 : BitVec 32 := 2048#32
  let true_208_r0 : BitVec 1 := 1#1
  let c1_i32_207_r0 : BitVec 32 := 1#32
  let v250_r0 : BitVec 32 := Scalar.addi arg26_r0 c1_i32_207_r0
  let v251_r0 : BitVec 32 := Scalar.select true_208_r0 v250_r0 arg26_r0
  let c4_i32_209_r0 : BitVec 32 := 4#32
  let v252_r0 : BitVec 1 := Scalar.cmpi .eq v251_r0 c4_i32_209_r0
  let c0_i32_210_r0 : BitVec 32 := 0#32
  let v253_r0 : BitVec 32 := Scalar.select v252_r0 c0_i32_210_r0 v251_r0
  let c0_i32_211_r0 : BitVec 32 := 0#32
  let v254_r0 : BitVec 32 := Scalar.addi v253_r0 c0_i32_211_r0
  let v364_r0 : BitVec 32 := Scalar.muli c2048_i32_272_r0 v254_r0
  let c0_i32_275_r0 : BitVec 32 := 0#32
  ![v364_r0.toNat, 0]
def k0_off6 (arg23_r0 : BitVec 32) : Fin 1 → Nat :=
  let c2_i32_272_r0 : BitVec 32 := 2#32
  let v364_r0 : BitVec 32 := Scalar.remui arg23_r0 c2_i32_272_r0
  ![v364_r0.toNat]
def k0_cond2 (k0_t1 : Fin k0_t1_loop.trips) (arg26_r0 : BitVec 32) : BitVec 1 :=
  let c0_i32_201_r0 : BitVec 32 := 0#32
  let v244_r0 : BitVec 32 := Scalar.addi arg26_r0 c0_i32_201_r0
  let true_203_r0 : BitVec 1 := 1#1
  let c1_i32_202_r0 : BitVec 32 := 1#32
  let v245_r0 : BitVec 32 := Scalar.subi arg26_r0 c1_i32_202_r0
  let v246_r0 : BitVec 32 := Scalar.select true_203_r0 v245_r0 arg26_r0
  let c_m1_i32_204_r0 : BitVec 32 := 4294967295#32
  let v247_r0 : BitVec 1 := Scalar.cmpi .eq v246_r0 c_m1_i32_204_r0
  let c3_i32_205_r0 : BitVec 32 := 3#32
  let v248_r0 : BitVec 32 := Scalar.select v247_r0 c3_i32_205_r0 v246_r0
  let c0_i32_206_r0 : BitVec 32 := 0#32
  let v249_r0 : BitVec 32 := Scalar.addi v248_r0 c0_i32_206_r0
  let v274_r0 : BitVec 1 := Scalar.cmpi .ne v244_r0 v249_r0
  let c0_i32_171_r0 : BitVec 32 := 0#32
  let c1_i32_173_r0 : BitVec 32 := 1#32
  let arg21_r0 : BitVec 32 := Scf.iv c0_i32_171_r0 c1_i32_173_r0 k0_t1
  let c0_i32_199_r0 : BitVec 32 := 0#32
  let v242_r0 : BitVec 1 := Scalar.cmpi .eq arg21_r0 c0_i32_199_r0
  let v275_r0 : BitVec 1 := Scalar.ori v274_r0 v242_r0
  let c0_i32_225_r0 : BitVec 32 := 0#32
  let v276_r0 : BitVec 1 := Scalar.cmpi .sge arg21_r0 c0_i32_225_r0
  let v277_r0 : BitVec 1 := Scalar.andi v275_r0 v276_r0
  let v278_r0 : BitVec 32 := Scalar.extui v277_r0
  let c0_i32_226_r0 : BitVec 32 := 0#32
  let v279_r0 : BitVec 1 := Scalar.cmpi .ne v278_r0 c0_i32_226_r0
  v279_r0

def k0_off7 (arg23_r0 : BitVec 32) : Fin 3 → Nat :=
  let c2_i32_272_r0 : BitVec 32 := 2#32
  let v364_r0 : BitVec 32 := Scalar.remui arg23_r0 c2_i32_272_r0
  let c0_i32_273_r0 : BitVec 32 := 0#32
  let c0_i32_274_r0 : BitVec 32 := 0#32
  ![v364_r0.toNat, 0, 0]
def k0_off8 (arg26_r0 : BitVec 32) : Fin 2 → Nat :=
  let c2048_i32_271_r0 : BitVec 32 := 2048#32
  let c0_i32_201_r0 : BitVec 32 := 0#32
  let v244_r0 : BitVec 32 := Scalar.addi arg26_r0 c0_i32_201_r0
  let v363_r0 : BitVec 32 := Scalar.muli c2048_i32_271_r0 v244_r0
  let c0_i32_275_r0 : BitVec 32 := 0#32
  ![v363_r0.toNat, 0]
def k0_off9 (arg23_r0 : BitVec 32) : Fin 3 → Nat :=
  let c2_i32_229_r0 : BitVec 32 := 2#32
  let v286_r0 : BitVec 32 := Scalar.remui arg23_r0 c2_i32_229_r0
  let v288_r0 : Index := Scalar.indexCast v286_r0
  let c0_231_r0 : Index := 0#32
  let c0_232_r0 : Index := 0#32
  ![v288_r0.toNat, 0, 0]

def k0_chk2 (arg23_r0 : BitVec 32) : Prop :=
  (∀ a, (k0_off9 arg23_r0) a + S1x2048x768.size a ≤ S2x2048x768.size a)
theorem k0_off9_inb : ∀ (arg23_r0 : BitVec 32) (k0_hw2 : k0_chk2 arg23_r0), ∀ a, (k0_off9 arg23_r0) a + S1x2048x768.size a ≤ S2x2048x768.size a := fun arg23_r0 k0_hw2 => k0_hw2

def k0_off10 (arg24_r0 : BitVec 32) : Fin 3 → Nat :=
  let c2_i32_230_r0 : BitVec 32 := 2#32
  let v287_r0 : BitVec 32 := Scalar.remui arg24_r0 c2_i32_230_r0
  let v325_r0 : Index := Scalar.indexCast v287_r0
  let c0_253_r0 : Index := 0#32
  let c0_254_r0 : Index := 0#32
  ![v325_r0.toNat, 0, 0]

def k0_chk3 (arg24_r0 : BitVec 32) : Prop :=
  (∀ a, (k0_off10 arg24_r0) a + S1x2048x768.size a ≤ S2x2048x768.size a)
theorem k0_off10_inb : ∀ (arg24_r0 : BitVec 32) (k0_hw3 : k0_chk3 arg24_r0), ∀ a, (k0_off10 arg24_r0) a + S1x2048x768.size a ≤ S2x2048x768.size a := fun arg24_r0 k0_hw3 => k0_hw3

def k0_off11 (arg24_r0 : BitVec 32) : Fin 1 → Nat :=
  let c2_i32_271_r0 : BitVec 32 := 2#32
  let v363_r0 : BitVec 32 := Scalar.remui arg24_r0 c2_i32_271_r0
  ![v363_r0.toNat]
def k0_cond5 (k0_t1 : Fin k0_t1_loop.trips) (arg26_r0 : BitVec 32) : BitVec 1 :=
  let c0_i32_201_r0 : BitVec 32 := 0#32
  let v244_r0 : BitVec 32 := Scalar.addi arg26_r0 c0_i32_201_r0
  let true_208_r0 : BitVec 1 := 1#1
  let c1_i32_207_r0 : BitVec 32 := 1#32
  let v250_r0 : BitVec 32 := Scalar.addi arg26_r0 c1_i32_207_r0
  let v251_r0 : BitVec 32 := Scalar.select true_208_r0 v250_r0 arg26_r0
  let c4_i32_209_r0 : BitVec 32 := 4#32
  let v252_r0 : BitVec 1 := Scalar.cmpi .eq v251_r0 c4_i32_209_r0
  let c0_i32_210_r0 : BitVec 32 := 0#32
  let v253_r0 : BitVec 32 := Scalar.select v252_r0 c0_i32_210_r0 v251_r0
  let c0_i32_211_r0 : BitVec 32 := 0#32
  let v254_r0 : BitVec 32 := Scalar.addi v253_r0 c0_i32_211_r0
  let v334_r0 : BitVec 1 := Scalar.cmpi .ne v244_r0 v254_r0
  let c0_i32_171_r0 : BitVec 32 := 0#32
  let c1_i32_173_r0 : BitVec 32 := 1#32
  let arg21_r0 : BitVec 32 := Scf.iv c0_i32_171_r0 c1_i32_173_r0 k0_t1
  let c3_i32_200_r0 : BitVec 32 := 3#32
  let v243_r0 : BitVec 1 := Scalar.cmpi .eq arg21_r0 c3_i32_200_r0
  let v335_r0 : BitVec 1 := Scalar.ori v334_r0 v243_r0
  let v336_r0 : BitVec 32 := Scalar.extui v335_r0
  let c0_i32_256_r0 : BitVec 32 := 0#32
  let v337_r0 : BitVec 1 := Scalar.cmpi .ne v336_r0 c0_i32_256_r0
  v337_r0

def k0_off12 (arg26_r0 : BitVec 32) : Fin 2 → Nat :=
  let c2048_i32_272_r0 : BitVec 32 := 2048#32
  let c0_i32_201_r0 : BitVec 32 := 0#32
  let v244_r0 : BitVec 32 := Scalar.addi arg26_r0 c0_i32_201_r0
  let v364_r0 : BitVec 32 := Scalar.muli c2048_i32_272_r0 v244_r0
  let c0_i32_273_r0 : BitVec 32 := 0#32
  ![v364_r0.toNat, 0]
def k0_off13 (arg24_r0 : BitVec 32) : Fin 3 → Nat :=
  let c2_i32_271_r0 : BitVec 32 := 2#32
  let v363_r0 : BitVec 32 := Scalar.remui arg24_r0 c2_i32_271_r0
  let c0_i32_274_r0 : BitVec 32 := 0#32
  let c0_i32_275_r0 : BitVec 32 := 0#32
  ![v363_r0.toNat, 0, 0]
def k0_off14 (arg25_r0 : BitVec 32) : Fin 1 → Nat :=
  let c2_i32_271_r0 : BitVec 32 := 2#32
  let v363_r0 : BitVec 32 := Scalar.remui arg25_r0 c2_i32_271_r0
  ![v363_r0.toNat]
def k0_cond7 (k0_t1 : Fin k0_t1_loop.trips) (arg26_r0 : BitVec 32) : BitVec 1 :=
  let c0_i32_201_r0 : BitVec 32 := 0#32
  let v244_r0 : BitVec 32 := Scalar.addi arg26_r0 c0_i32_201_r0
  let true_203_r0 : BitVec 1 := 1#1
  let c1_i32_202_r0 : BitVec 32 := 1#32
  let v245_r0 : BitVec 32 := Scalar.subi arg26_r0 c1_i32_202_r0
  let v246_r0 : BitVec 32 := Scalar.select true_203_r0 v245_r0 arg26_r0
  let c_m1_i32_204_r0 : BitVec 32 := 4294967295#32
  let v247_r0 : BitVec 1 := Scalar.cmpi .eq v246_r0 c_m1_i32_204_r0
  let c3_i32_205_r0 : BitVec 32 := 3#32
  let v248_r0 : BitVec 32 := Scalar.select v247_r0 c3_i32_205_r0 v246_r0
  let c0_i32_206_r0 : BitVec 32 := 0#32
  let v249_r0 : BitVec 32 := Scalar.addi v248_r0 c0_i32_206_r0
  let v347_r0 : BitVec 1 := Scalar.cmpi .ne v244_r0 v249_r0
  let c0_i32_171_r0 : BitVec 32 := 0#32
  let c1_i32_173_r0 : BitVec 32 := 1#32
  let arg21_r0 : BitVec 32 := Scf.iv c0_i32_171_r0 c1_i32_173_r0 k0_t1
  let c0_i32_199_r0 : BitVec 32 := 0#32
  let v242_r0 : BitVec 1 := Scalar.cmpi .eq arg21_r0 c0_i32_199_r0
  let true_262_r0 : BitVec 1 := 1#1
  let v348_r0 : BitVec 1 := Scalar.xori v242_r0 true_262_r0
  let v349_r0 : BitVec 1 := Scalar.andi v347_r0 v348_r0
  let v350_r0 : BitVec 32 := Scalar.extui v349_r0
  let c0_i32_263_r0 : BitVec 32 := 0#32
  let v351_r0 : BitVec 1 := Scalar.cmpi .ne v350_r0 c0_i32_263_r0
  v351_r0

def k0_off15 (arg26_r0 : BitVec 32) : Fin 2 → Nat :=
  let c2048_i32_272_r0 : BitVec 32 := 2048#32
  let true_203_r0 : BitVec 1 := 1#1
  let c1_i32_202_r0 : BitVec 32 := 1#32
  let v245_r0 : BitVec 32 := Scalar.subi arg26_r0 c1_i32_202_r0
  let v246_r0 : BitVec 32 := Scalar.select true_203_r0 v245_r0 arg26_r0
  let c_m1_i32_204_r0 : BitVec 32 := 4294967295#32
  let v247_r0 : BitVec 1 := Scalar.cmpi .eq v246_r0 c_m1_i32_204_r0
  let c3_i32_205_r0 : BitVec 32 := 3#32
  let v248_r0 : BitVec 32 := Scalar.select v247_r0 c3_i32_205_r0 v246_r0
  let c0_i32_206_r0 : BitVec 32 := 0#32
  let v249_r0 : BitVec 32 := Scalar.addi v248_r0 c0_i32_206_r0
  let v364_r0 : BitVec 32 := Scalar.muli c2048_i32_272_r0 v249_r0
  let c0_i32_273_r0 : BitVec 32 := 0#32
  ![v364_r0.toNat, 0]
def k0_off16 (arg25_r0 : BitVec 32) : Fin 3 → Nat :=
  let c2_i32_271_r0 : BitVec 32 := 2#32
  let v363_r0 : BitVec 32 := Scalar.remui arg25_r0 c2_i32_271_r0
  let c0_i32_274_r0 : BitVec 32 := 0#32
  let c0_i32_275_r0 : BitVec 32 := 0#32
  ![v363_r0.toNat, 0, 0]

def k0_chk1 (k0_t1 : Fin k0_t1_loop.trips) (arg22_r0 : BitVec 32) (arg23_r0 : BitVec 32) (arg24_r0 : BitVec 32) (arg25_r0 : BitVec 32) (arg26_r0 : BitVec 32) : Prop :=
  (∀ (k0_h1 : k0_cond1 k0_t1 arg26_r0 = 1#1), ∀ a, (k0_off3 arg22_r0) a + S1.size a ≤ S2.size a) ∧
  (∀ (k0_h1 : k0_cond1 k0_t1 arg26_r0 = 1#1), ∀ a, (k0_off4 arg22_r0) a + S1x2048x768.size a ≤ S2x2048x768.size a) ∧
  (∀ (k0_h1 : k0_cond1 k0_t1 arg26_r0 = 1#1), ∀ a, (k0_off5 arg26_r0) a + S2048x768.size a ≤ S8192x768.size a) ∧
  (∀ (k0_h2 : k0_cond2 k0_t1 arg26_r0 = 1#1), ∀ a, (k0_off6 arg23_r0) a + S1.size a ≤ S2.size a) ∧
  (∀ (k0_h2 : k0_cond2 k0_t1 arg26_r0 = 1#1), ∀ a, (k0_off7 arg23_r0) a + S1x2048x768.size a ≤ S2x2048x768.size a) ∧
  (∀ (k0_h2 : k0_cond2 k0_t1 arg26_r0 = 1#1), ∀ a, (k0_off8 arg26_r0) a + S2048x768.size a ≤ S8192x768.size a) ∧
  (∀ (k0_h5 : k0_cond5 k0_t1 arg26_r0 = 1#1), ∀ a, (k0_off11 arg24_r0) a + S1.size a ≤ S2.size a) ∧
  (∀ (k0_h5 : k0_cond5 k0_t1 arg26_r0 = 1#1), ∀ a, (k0_off12 arg26_r0) a + S2048x768.size a ≤ S8192x768.size a) ∧
  (∀ (k0_h5 : k0_cond5 k0_t1 arg26_r0 = 1#1), ∀ a, (k0_off13 arg24_r0) a + S1x2048x768.size a ≤ S2x2048x768.size a) ∧
  (∀ (k0_h7 : k0_cond7 k0_t1 arg26_r0 = 1#1), ∀ a, (k0_off14 arg25_r0) a + S1.size a ≤ S2.size a) ∧
  (∀ (k0_h7 : k0_cond7 k0_t1 arg26_r0 = 1#1), ∀ a, (k0_off15 arg26_r0) a + S2048x768.size a ≤ S8192x768.size a) ∧
  (∀ (k0_h7 : k0_cond7 k0_t1 arg26_r0 = 1#1), ∀ a, (k0_off16 arg25_r0) a + S1x2048x768.size a ≤ S2x2048x768.size a)
theorem k0_off3_inb : ∀ (k0_t1 : Fin k0_t1_loop.trips) (arg22_r0 : BitVec 32) (arg23_r0 : BitVec 32) (arg24_r0 : BitVec 32) (arg25_r0 : BitVec 32) (arg26_r0 : BitVec 32) (k0_hw1 : k0_chk1 k0_t1 arg22_r0 arg23_r0 arg24_r0 arg25_r0 arg26_r0), ∀ (k0_h1 : k0_cond1 k0_t1 arg26_r0 = 1#1), ∀ a, (k0_off3 arg22_r0) a + S1.size a ≤ S2.size a := fun k0_t1 arg22_r0 arg23_r0 arg24_r0 arg25_r0 arg26_r0 k0_hw1 k0_h1 => k0_hw1.1 k0_h1
theorem k0_off4_inb : ∀ (k0_t1 : Fin k0_t1_loop.trips) (arg22_r0 : BitVec 32) (arg23_r0 : BitVec 32) (arg24_r0 : BitVec 32) (arg25_r0 : BitVec 32) (arg26_r0 : BitVec 32) (k0_hw1 : k0_chk1 k0_t1 arg22_r0 arg23_r0 arg24_r0 arg25_r0 arg26_r0), ∀ (k0_h1 : k0_cond1 k0_t1 arg26_r0 = 1#1), ∀ a, (k0_off4 arg22_r0) a + S1x2048x768.size a ≤ S2x2048x768.size a := fun k0_t1 arg22_r0 arg23_r0 arg24_r0 arg25_r0 arg26_r0 k0_hw1 k0_h1 => k0_hw1.2.1 k0_h1
theorem k0_off5_inb : ∀ (k0_t1 : Fin k0_t1_loop.trips) (arg22_r0 : BitVec 32) (arg23_r0 : BitVec 32) (arg24_r0 : BitVec 32) (arg25_r0 : BitVec 32) (arg26_r0 : BitVec 32) (k0_hw1 : k0_chk1 k0_t1 arg22_r0 arg23_r0 arg24_r0 arg25_r0 arg26_r0), ∀ (k0_h1 : k0_cond1 k0_t1 arg26_r0 = 1#1), ∀ a, (k0_off5 arg26_r0) a + S2048x768.size a ≤ S8192x768.size a := fun k0_t1 arg22_r0 arg23_r0 arg24_r0 arg25_r0 arg26_r0 k0_hw1 k0_h1 => k0_hw1.2.2.1 k0_h1
theorem k0_off6_inb : ∀ (k0_t1 : Fin k0_t1_loop.trips) (arg22_r0 : BitVec 32) (arg23_r0 : BitVec 32) (arg24_r0 : BitVec 32) (arg25_r0 : BitVec 32) (arg26_r0 : BitVec 32) (k0_hw1 : k0_chk1 k0_t1 arg22_r0 arg23_r0 arg24_r0 arg25_r0 arg26_r0), ∀ (k0_h2 : k0_cond2 k0_t1 arg26_r0 = 1#1), ∀ a, (k0_off6 arg23_r0) a + S1.size a ≤ S2.size a := fun k0_t1 arg22_r0 arg23_r0 arg24_r0 arg25_r0 arg26_r0 k0_hw1 k0_h2 => k0_hw1.2.2.2.1 k0_h2
theorem k0_off7_inb : ∀ (k0_t1 : Fin k0_t1_loop.trips) (arg22_r0 : BitVec 32) (arg23_r0 : BitVec 32) (arg24_r0 : BitVec 32) (arg25_r0 : BitVec 32) (arg26_r0 : BitVec 32) (k0_hw1 : k0_chk1 k0_t1 arg22_r0 arg23_r0 arg24_r0 arg25_r0 arg26_r0), ∀ (k0_h2 : k0_cond2 k0_t1 arg26_r0 = 1#1), ∀ a, (k0_off7 arg23_r0) a + S1x2048x768.size a ≤ S2x2048x768.size a := fun k0_t1 arg22_r0 arg23_r0 arg24_r0 arg25_r0 arg26_r0 k0_hw1 k0_h2 => k0_hw1.2.2.2.2.1 k0_h2
theorem k0_off8_inb : ∀ (k0_t1 : Fin k0_t1_loop.trips) (arg22_r0 : BitVec 32) (arg23_r0 : BitVec 32) (arg24_r0 : BitVec 32) (arg25_r0 : BitVec 32) (arg26_r0 : BitVec 32) (k0_hw1 : k0_chk1 k0_t1 arg22_r0 arg23_r0 arg24_r0 arg25_r0 arg26_r0), ∀ (k0_h2 : k0_cond2 k0_t1 arg26_r0 = 1#1), ∀ a, (k0_off8 arg26_r0) a + S2048x768.size a ≤ S8192x768.size a := fun k0_t1 arg22_r0 arg23_r0 arg24_r0 arg25_r0 arg26_r0 k0_hw1 k0_h2 => k0_hw1.2.2.2.2.2.1 k0_h2
theorem k0_off11_inb : ∀ (k0_t1 : Fin k0_t1_loop.trips) (arg22_r0 : BitVec 32) (arg23_r0 : BitVec 32) (arg24_r0 : BitVec 32) (arg25_r0 : BitVec 32) (arg26_r0 : BitVec 32) (k0_hw1 : k0_chk1 k0_t1 arg22_r0 arg23_r0 arg24_r0 arg25_r0 arg26_r0), ∀ (k0_h5 : k0_cond5 k0_t1 arg26_r0 = 1#1), ∀ a, (k0_off11 arg24_r0) a + S1.size a ≤ S2.size a := fun k0_t1 arg22_r0 arg23_r0 arg24_r0 arg25_r0 arg26_r0 k0_hw1 k0_h5 => k0_hw1.2.2.2.2.2.2.1 k0_h5
theorem k0_off12_inb : ∀ (k0_t1 : Fin k0_t1_loop.trips) (arg22_r0 : BitVec 32) (arg23_r0 : BitVec 32) (arg24_r0 : BitVec 32) (arg25_r0 : BitVec 32) (arg26_r0 : BitVec 32) (k0_hw1 : k0_chk1 k0_t1 arg22_r0 arg23_r0 arg24_r0 arg25_r0 arg26_r0), ∀ (k0_h5 : k0_cond5 k0_t1 arg26_r0 = 1#1), ∀ a, (k0_off12 arg26_r0) a + S2048x768.size a ≤ S8192x768.size a := fun k0_t1 arg22_r0 arg23_r0 arg24_r0 arg25_r0 arg26_r0 k0_hw1 k0_h5 => k0_hw1.2.2.2.2.2.2.2.1 k0_h5
theorem k0_off13_inb : ∀ (k0_t1 : Fin k0_t1_loop.trips) (arg22_r0 : BitVec 32) (arg23_r0 : BitVec 32) (arg24_r0 : BitVec 32) (arg25_r0 : BitVec 32) (arg26_r0 : BitVec 32) (k0_hw1 : k0_chk1 k0_t1 arg22_r0 arg23_r0 arg24_r0 arg25_r0 arg26_r0), ∀ (k0_h5 : k0_cond5 k0_t1 arg26_r0 = 1#1), ∀ a, (k0_off13 arg24_r0) a + S1x2048x768.size a ≤ S2x2048x768.size a := fun k0_t1 arg22_r0 arg23_r0 arg24_r0 arg25_r0 arg26_r0 k0_hw1 k0_h5 => k0_hw1.2.2.2.2.2.2.2.2.1 k0_h5
theorem k0_off14_inb : ∀ (k0_t1 : Fin k0_t1_loop.trips) (arg22_r0 : BitVec 32) (arg23_r0 : BitVec 32) (arg24_r0 : BitVec 32) (arg25_r0 : BitVec 32) (arg26_r0 : BitVec 32) (k0_hw1 : k0_chk1 k0_t1 arg22_r0 arg23_r0 arg24_r0 arg25_r0 arg26_r0), ∀ (k0_h7 : k0_cond7 k0_t1 arg26_r0 = 1#1), ∀ a, (k0_off14 arg25_r0) a + S1.size a ≤ S2.size a := fun k0_t1 arg22_r0 arg23_r0 arg24_r0 arg25_r0 arg26_r0 k0_hw1 k0_h7 => k0_hw1.2.2.2.2.2.2.2.2.2.1 k0_h7
theorem k0_off15_inb : ∀ (k0_t1 : Fin k0_t1_loop.trips) (arg22_r0 : BitVec 32) (arg23_r0 : BitVec 32) (arg24_r0 : BitVec 32) (arg25_r0 : BitVec 32) (arg26_r0 : BitVec 32) (k0_hw1 : k0_chk1 k0_t1 arg22_r0 arg23_r0 arg24_r0 arg25_r0 arg26_r0), ∀ (k0_h7 : k0_cond7 k0_t1 arg26_r0 = 1#1), ∀ a, (k0_off15 arg26_r0) a + S2048x768.size a ≤ S8192x768.size a := fun k0_t1 arg22_r0 arg23_r0 arg24_r0 arg25_r0 arg26_r0 k0_hw1 k0_h7 => k0_hw1.2.2.2.2.2.2.2.2.2.2.1 k0_h7
theorem k0_off16_inb : ∀ (k0_t1 : Fin k0_t1_loop.trips) (arg22_r0 : BitVec 32) (arg23_r0 : BitVec 32) (arg24_r0 : BitVec 32) (arg25_r0 : BitVec 32) (arg26_r0 : BitVec 32) (k0_hw1 : k0_chk1 k0_t1 arg22_r0 arg23_r0 arg24_r0 arg25_r0 arg26_r0), ∀ (k0_h7 : k0_cond7 k0_t1 arg26_r0 = 1#1), ∀ a, (k0_off16 arg25_r0) a + S1x2048x768.size a ≤ S2x2048x768.size a := fun k0_t1 arg22_r0 arg23_r0 arg24_r0 arg25_r0 arg26_r0 k0_hw1 k0_h7 => k0_hw1.2.2.2.2.2.2.2.2.2.2.2 k0_h7

def k0_off17 (v214_3_r0 : BitVec 32) : Fin 1 → Nat :=
  let c2_i32_195_r0 : BitVec 32 := 2#32
  let v235_r0 : BitVec 32 := Scalar.remui v214_3_r0 c2_i32_195_r0
  ![v235_r0.toNat]

def k0_off18 (v214_4_r0 : BitVec 32) : Fin 2 → Nat :=
  let c2048_i32_r0 : BitVec 32 := 2048#32
  let true_176_r0 : BitVec 1 := 1#1
  let c1_i32_175_r0 : BitVec 32 := 1#32
  let v215_r0 : BitVec 32 := Scalar.subi v214_4_r0 c1_i32_175_r0
  let v216_r0 : BitVec 32 := Scalar.select true_176_r0 v215_r0 v214_4_r0
  let c_m1_i32_177_r0 : BitVec 32 := 4294967295#32
  let v217_r0 : BitVec 1 := Scalar.cmpi .eq v216_r0 c_m1_i32_177_r0
  let c3_i32_178_r0 : BitVec 32 := 3#32
  let v218_r0 : BitVec 32 := Scalar.select v217_r0 c3_i32_178_r0 v216_r0
  let c0_i32_179_r0 : BitVec 32 := 0#32
  let v219_r0 : BitVec 32 := Scalar.addi v218_r0 c0_i32_179_r0
  let v236_r0 : BitVec 32 := Scalar.muli c2048_i32_r0 v219_r0
  let c0_i32_196_r0 : BitVec 32 := 0#32
  ![v236_r0.toNat, 0]

def k0_chk5 (v214_4_r0 : BitVec 32) : Prop :=
  (∀ a, (k0_off18 v214_4_r0) a + S2048x768.size a ≤ S8192x768.size a)
theorem k0_off18_inb : ∀ (v214_4_r0 : BitVec 32) (k0_hw5 : k0_chk5 v214_4_r0), ∀ a, (k0_off18 v214_4_r0) a + S2048x768.size a ≤ S8192x768.size a := fun v214_4_r0 k0_hw5 => k0_hw5

def k0_off19 (v214_3_r0 : BitVec 32) : Fin 3 → Nat :=
  let c2_i32_195_r0 : BitVec 32 := 2#32
  let v235_r0 : BitVec 32 := Scalar.remui v214_3_r0 c2_i32_195_r0
  let c0_i32_197_r0 : BitVec 32 := 0#32
  let c0_i32_198_r0 : BitVec 32 := 0#32
  ![v235_r0.toNat, 0, 0]

def k0_chk4 (v214_3_r0 : BitVec 32) : Prop :=
  (∀ a, (k0_off17 v214_3_r0) a + S1.size a ≤ S2.size a) ∧
  (∀ a, (k0_off19 v214_3_r0) a + S1x2048x768.size a ≤ S2x2048x768.size a)
theorem k0_off17_inb : ∀ (v214_3_r0 : BitVec 32) (k0_hw4 : k0_chk4 v214_3_r0), ∀ a, (k0_off17 v214_3_r0) a + S1.size a ≤ S2.size a := fun v214_3_r0 k0_hw4 => k0_hw4.1
theorem k0_off19_inb : ∀ (v214_3_r0 : BitVec 32) (k0_hw4 : k0_chk4 v214_3_r0), ∀ a, (k0_off19 v214_3_r0) a + S1x2048x768.size a ≤ S2x2048x768.size a := fun v214_3_r0 k0_hw4 => k0_hw4.2
-- ==== ReferenceIdeal.lean ====
abbrev S8192x768 : Shape := ⟨2, ![8192, 768]⟩
abbrev S768x8 : Shape := ⟨2, ![768, 8]⟩
abbrev S8 : Shape := ⟨1, ![8]⟩
abbrev S8x768x64 : Shape := ⟨3, ![8, 768, 64]⟩
abbrev S8x64 : Shape := ⟨2, ![8, 64]⟩
abbrev S8x64x768 : Shape := ⟨3, ![8, 64, 768]⟩
abbrev S8x768 : Shape := ⟨2, ![8, 768]⟩
abbrev S8192x8 : Shape := ⟨2, ![8192, 8]⟩
abbrev S1x8 : Shape := ⟨2, ![1, 8]⟩
abbrev S_ : Shape := ⟨0, ![]⟩
abbrev S8192 : Shape := ⟨1, ![8192]⟩
abbrev S8192x1 : Shape := ⟨2, ![8192, 1]⟩
abbrev S8192x8x64 : Shape := ⟨3, ![8192, 8, 64]⟩
abbrev S1x8x64 : Shape := ⟨3, ![1, 8, 64]⟩
abbrev S8x768x8192 : Shape := ⟨3, ![8, 768, 8192]⟩
abbrev S8192x8x768 : Shape := ⟨3, ![8192, 8, 768]⟩
abbrev S1x8x768 : Shape := ⟨3, ![1, 8, 768]⟩
abbrev S8192x8x1 : Shape := ⟨3, ![8192, 8, 1]⟩

abbrev nBuf : Space → Nat
  | .hbm => 42
  | .vmem => 0
  | .smem => 0
  | _ => 0

abbrev bufTy : (tb : Table) → Fin (tcTables nBuf tb) → BufTy
  | .hbm, ⟨0, _⟩ => ⟨S8192x768, .f32⟩
  | .hbm, ⟨1, _⟩ => ⟨S768x8, .f32⟩
  | .hbm, ⟨2, _⟩ => ⟨S8, .f32⟩
  | .hbm, ⟨3, _⟩ => ⟨S8x768x64, .f32⟩
  | .hbm, ⟨4, _⟩ => ⟨S8x64, .f32⟩
  | .hbm, ⟨5, _⟩ => ⟨S8x64x768, .f32⟩
  | .hbm, ⟨6, _⟩ => ⟨S8x768, .f32⟩
  | .hbm, ⟨7, _⟩ => ⟨S8192x8, .f32⟩
  | .hbm, ⟨8, _⟩ => ⟨S1x8, .f32⟩
  | .hbm, ⟨9, _⟩ => ⟨S8192x8, .f32⟩
  | .hbm, ⟨10, _⟩ => ⟨S8192x8, .f32⟩
  | .hbm, ⟨11, _⟩ => ⟨S_, .f32⟩
  | .hbm, ⟨12, _⟩ => ⟨S8192, .f32⟩
  | .hbm, ⟨13, _⟩ => ⟨S_, .f32⟩
  | .hbm, ⟨14, _⟩ => ⟨S8192, .f32⟩
  | .hbm, ⟨15, _⟩ => ⟨S8192, .f32⟩
  | .hbm, ⟨16, _⟩ => ⟨S8192x1, .f32⟩
  | .hbm, ⟨17, _⟩ => ⟨S8192x8, .f32⟩
  | .hbm, ⟨18, _⟩ => ⟨S8192x8, .f32⟩
  | .hbm, ⟨19, _⟩ => ⟨S8192x8, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S8192x8, .f32⟩
  | .hbm, ⟨24, _⟩ => ⟨S8192x8, .f32⟩
  | .hbm, ⟨25, _⟩ => ⟨S8192x8x64, .f32⟩
  | .hbm, ⟨26, _⟩ => ⟨S1x8x64, .f32⟩
  | .hbm, ⟨27, _⟩ => ⟨S8192x8x64, .f32⟩
  | .hbm, ⟨28, _⟩ => ⟨S8192x8x64, .f32⟩
  | .hbm, ⟨29, _⟩ => ⟨S_, .f32⟩
  | .hbm, ⟨30, _⟩ => ⟨S8192x8x64, .f32⟩
  | .hbm, ⟨31, _⟩ => ⟨S8192x8x64, .f32⟩
  | .hbm, ⟨32, _⟩ => ⟨S8x768x8192, .f32⟩
  | .hbm, ⟨33, _⟩ => ⟨S8192x8x768, .f32⟩
  | .hbm, ⟨34, _⟩ => ⟨S1x8x768, .f32⟩
  | .hbm, ⟨35, _⟩ => ⟨S8192x8x768, .f32⟩
  | .hbm, ⟨36, _⟩ => ⟨S8192x8x768, .f32⟩
  | .hbm, ⟨37, _⟩ => ⟨S8192x8x1, .f32⟩
  | .hbm, ⟨38, _⟩ => ⟨S8192x8x768, .f32⟩
  | .hbm, ⟨39, _⟩ => ⟨S8192x8x768, .f32⟩
  | .hbm, ⟨40, _⟩ => ⟨S_, .f32⟩
  | .hbm, ⟨41, _⟩ => ⟨S8192x768, .f32⟩
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_cst : Ref sig .tc := ⟨.hbm, 29, rfl⟩
abbrev main_call0_v0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_2 : Ref sig .tc := ⟨.hbm, 40, rfl⟩
abbrev main_v28 : Ref sig .tc := ⟨.hbm, 41, rfl⟩

abbrev nD : Nat := 1
abbrev τ : Topo := Topo.v7x

variable {F : FTy → Type} [FloatOps F]
-- ==== Proof.Names.lean ====
/-
  The kernel streams the token rows `x` (8192 of 768 features) through two VMEM slots, 2048 rows a block, and
  writes each finished block of the result back from two more slots while the next block is computed. This module
  gives the pieces of those rings their names -- block `b` of `x` and of the result, slot `s` of either ring, slot
  `s`'s semaphore -- and reads the loop's five carried counters, at each of its four trips, as plain numbers: which
  slot, which block, and whether the trip starts a fetch or waits for a write.
-/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.KitQuiescent
public import Idealize.ShloMosaic.Lib.Ring.Trips
public import Idealize.ShloMosaic.Lib.Affine
public import Idealize.ShloMosaic.Lib.Tactic

@[expose] public section

set_option maxRecDepth 16384

noncomputable section

namespace Cert.Proof.Moe

open Cert.KernelIdeal Cert.KernelIdeal.Gen
open Idealize.ShloMosaic
open Idealize.ShloMosaic.TcCoe Idealize.ShloMosaic.Tactic

/-! ## Blocks, slots and semaphores -/

abbrev xM : Memref sig .tc .hbm S8192x768 .f32 := Memref.whole main_arg0
abbrev yM : Memref sig .tc .hbm S8192x768 .f32 := Memref.whole main_v0
abbrev inM : Memref sig .tc .vmem S2x2048x768 .f32 := Memref.whole cc0_scoped0
abbrev outM : Memref sig .tc .vmem S2x2048x768 .f32 := Memref.whole cc0_scoped2

abbrev blkOff (b : Fin 4) : Fin 2 → Nat := ![2048 * b.val, 0]
theorem blkOff_inb (b : Fin 4) : ∀ a, blkOff b a + S2048x768.size a ≤ S8192x768.size a := by
  have := b.isLt; intro a; fin_cases a
  · show 2048 * b.val + 2048 ≤ 8192; omega
  · show 0 + 768 ≤ 768; omega
abbrev slotOff (s : Fin 2) : Fin 3 → Nat := ![s.val, 0, 0]
theorem slotOff_inb (s : Fin 2) : ∀ a, slotOff s a + S1x2048x768.size a ≤ S2x2048x768.size a := by
  have := s.isLt; intro a; fin_cases a
  · show s.val + 1 ≤ 2; omega
  · show 0 + 2048 ≤ 2048; omega
  · show 0 + 768 ≤ 768; omega
abbrev semOff (s : Fin 2) : Fin 1 → Nat := ![s.val]
theorem semOff_inb (s : Fin 2) : ∀ a, semOff s a + S1.size a ≤ S2.size a := by
  have := s.isLt; intro a; fin_cases a; show s.val + 1 ≤ 2; omega

/-- Rows `2048 b` to `2048 b + 2047` of an array of 8192 rows. -/
abbrev blkRect (b : Fin 4) : Rect S8192x768 := Rect.unit (s := S8192x768) (blkOff b) S2048x768.size (blkOff_inb b)
/-- Half `s` of a two-slot buffer. -/
abbrev slotRect (s : Fin 2) : Rect S2x2048x768 := Rect.unit (s := S2x2048x768) (slotOff s) S1x2048x768.size (slotOff_inb s)

/-- Block `b` of `x`. -/
def xblk (b : Fin 4) : Memref sig .tc .hbm S2048x768 .f32 := xM.slice (blkRect b) (fun _ => rfl)
/-- Block `b` of the result. -/
def yblk (b : Fin 4) : Memref sig .tc .hbm S2048x768 .f32 := yM.slice (blkRect b) (fun _ => rfl)
/-- Slot `s` of the fetch ring. -/
def islot (s : Fin 2) : Memref sig .tc .vmem S2048x768 .f32 :=
  (inM.slice (slotRect s) (fun _ => rfl)).squeeze S2048x768 squeezes_S1x2048x768_S2048x768
/-- Slot `s` of the write-back ring. -/
def oslot (s : Fin 2) : Memref sig .tc .vmem S2048x768 .f32 :=
  (outM.slice (slotRect s) (fun _ => rfl)).squeeze S2048x768 squeezes_S1x2048x768_S2048x768
/-- Slot `s`'s semaphore in the fetch ring. -/
def isem (s : Fin 2) : DmaSems sig S_ := (cc0_scoped1.slice (Rect.unit (s := S2) (semOff s) S1.size (semOff_inb s))).squeeze S_ squeezes_S1_S_
/-- Slot `s`'s semaphore in the write-back ring. -/
def osem (s : Fin 2) : DmaSems sig S_ := (cc0_scoped3.slice (Rect.unit (s := S2) (semOff s) S1.size (semOff_inb s))).squeeze S_ squeezes_S1_S_

instance (s : Fin 2) : ClosedOff (slotOff s) := ⟨slotOff s, rfl⟩
instance (b : Fin 4) : ClosedOff (blkOff b) := ⟨blkOff b, rfl⟩

/-! ## The carried counters -/

theorem trips_eq : k0_t1_loop.trips = 4 := by decide
abbrev Trip : Type := Fin k0_t1_loop.trips
theorem trip_lt (k : Trip) : k.val < 4 := Nat.lt_of_lt_of_eq k.isLt trips_eq

/-- Fetches started before trip `k`: one ahead of the trips, all four from trip 3 on. -/
def w22 (k : ℕ) : BitVec 32 := if k < 4 then BitVec.ofNat 32 (k + 1) else 4#32
/-- Blocks consumed before trip `k`. -/
def w23 (k : ℕ) : BitVec 32 := BitVec.ofNat 32 k
/-- Write-backs started before trip `k`. -/
def w24 (k : ℕ) : BitVec 32 := BitVec.ofNat 32 k
/-- Write-backs waited for before trip `k`: one behind. -/
def w25 (k : ℕ) : BitVec 32 := BitVec.ofNat 32 (k - 1)
/-- The block trip `k` computes, back at 0 after the last. -/
def w26 (k : ℕ) : BitVec 32 := if k < 4 then BitVec.ofNat 32 k else 0#32

/-- The five counters before trip `k`. -/
abbrev accAt (k : ℕ) : BitVec 32 × BitVec 32 × BitVec 32 × BitVec 32 × BitVec 32 := (w22 k, w23 k, w24 k, w25 k, w26 k)

theorem off3_eq : ∀ k : Trip, k.val < 3 → k0_off3 (w22 k.val) = semOff (Ring.sl 2 (k.val + 1)) := by decide
theorem off4_eq : ∀ k : Trip, k.val < 3 → k0_off4 (w22 k.val) = slotOff (Ring.sl 2 (k.val + 1)) := by decide
theorem off5_eq : ∀ k : Trip, k.val < 3 → k0_off5 (w26 k.val) = blkOff (Ring.bk 4 (k.val + 1)) := by decide
theorem off6_eq : ∀ k : Trip, k0_off6 (w23 k.val) = semOff (Ring.sl 2 k.val) := by decide
theorem off7_eq : ∀ k : Trip, k0_off7 (w23 k.val) = slotOff (Ring.sl 2 k.val) := by decide
theorem off8_eq : ∀ k : Trip, k0_off8 (w26 k.val) = blkOff (Ring.bk 4 k.val) := by decide
theorem off9_eq : ∀ k : Trip, k0_off9 (w23 k.val) = slotOff (Ring.sl 2 k.val) := by decide
theorem off10_eq : ∀ k : Trip, k0_off10 (w24 k.val) = slotOff (Ring.sl 2 k.val) := by decide
theorem off11_eq : ∀ k : Trip, k0_off11 (w24 k.val) = semOff (Ring.sl 2 k.val) := by decide
theorem off12_eq : ∀ k : Trip, k0_off12 (w26 k.val) = blkOff (Ring.bk 4 k.val) := by decide
theorem off13_eq : ∀ k : Trip, k0_off13 (w24 k.val) = slotOff (Ring.sl 2 k.val) := by decide
theorem off14_eq : ∀ k : Trip, 1 ≤ k.val → k0_off14 (w25 k.val) = semOff (Ring.sl 2 (k.val + 1)) := by decide
theorem off15_eq : ∀ k : Trip, 1 ≤ k.val → k0_off15 (w26 k.val) = blkOff (Ring.bk 4 (k.val - 1)) := by decide
theorem off16_eq : ∀ k : Trip, 1 ≤ k.val → k0_off16 (w25 k.val) = slotOff (Ring.sl 2 (k.val + 1)) := by decide
theorem off17_eq : k0_off17 (w25 4) = semOff 1 := by decide
theorem off18_eq : k0_off18 (w26 4) = blkOff 3 := by decide
theorem off19_eq : k0_off19 (w25 4) = slotOff 1 := by decide

instance (k : Trip) : ClosedOff (k0_off9 (w23 k.val)) := ⟨slotOff (Ring.sl 2 k.val), off9_eq k⟩
instance (k : Trip) : ClosedOff (k0_off10 (w24 k.val)) := ⟨slotOff (Ring.sl 2 k.val), off10_eq k⟩

/-- The slices the kernel assumes in range are so at every trip. -/
theorem chk1 : ∀ k : Trip, k0_chk1 k (w22 k.val) (w23 k.val) (w24 k.val) (w25 k.val) (w26 k.val) := by decide
theorem chk2 : ∀ k : Trip, k0_chk2 (w23 k.val) := by decide
theorem chk3 : ∀ k : Trip, k0_chk3 (w24 k.val) := by decide
theorem chk4 : k0_chk4 (w25 4) := by decide
theorem chk5 : k0_chk5 (w26 4) := by decide

/-- A fetch is started at every trip but the last; -/
theorem cond1_yes : ∀ k : Trip, k.val < 3 → k0_cond1 k (w26 k.val) = 1#1 := by decide
theorem cond1_no : ∀ k : Trip, 3 ≤ k.val → ¬ k0_cond1 k (w26 k.val) = 1#1 := by decide
/-- a block is waited for and a write-back started at every trip; -/
theorem cond2_yes : ∀ k : Trip, k0_cond2 k (w26 k.val) = 1#1 := by decide
theorem cond5_yes : ∀ k : Trip, k0_cond5 k (w26 k.val) = 1#1 := by decide
/-- a write-back is waited for at every trip but the first. -/
theorem cond7_yes : ∀ k : Trip, 1 ≤ k.val → k0_cond7 k (w26 k.val) = 1#1 := by decide
theorem cond7_no : ∀ k : Trip, k.val < 1 → ¬ k0_cond7 k (w26 k.val) = 1#1 := by decide

/-! ## The kernel's slices are the named pieces -/

section Canon

private theorem isem_congr {off : Fin 1 → Nat} {s : Fin 2} (e : off = semOff s) (hh) :
    (cc0_scoped1.slice (Rect.unit (s := S2) off S1.size hh)).squeeze S_ squeezes_S1_S_ = isem s :=
  congrArg (fun A : DmaSems sig S1 => A.squeeze S_ squeezes_S1_S_) (SemArray.slice_unit_congr _ e _ _)
private theorem osem_congr {off : Fin 1 → Nat} {s : Fin 2} (e : off = semOff s) (hh) :
    (cc0_scoped3.slice (Rect.unit (s := S2) off S1.size hh)).squeeze S_ squeezes_S1_S_ = osem s :=
  congrArg (fun A : DmaSems sig S1 => A.squeeze S_ squeezes_S1_S_) (SemArray.slice_unit_congr _ e _ _)
private theorem islot_congr {off : Fin 3 → Nat} {s : Fin 2} (e : off = slotOff s) (hh hs) :
    (inM.slice (Rect.unit (s := S2x2048x768) off S1x2048x768.size hh) hs).squeeze S2048x768 squeezes_S1x2048x768_S2048x768 = islot s :=
  congrArg (fun M : Memref sig .tc .vmem S1x2048x768 .f32 => M.squeeze S2048x768 squeezes_S1x2048x768_S2048x768) (Memref.slice_unit_congr _ e _ _ _ _)
private theorem oslot_congr {off : Fin 3 → Nat} {s : Fin 2} (e : off = slotOff s) (hh hs) :
    (outM.slice (Rect.unit (s := S2x2048x768) off S1x2048x768.size hh) hs).squeeze S2048x768 squeezes_S1x2048x768_S2048x768 = oslot s :=
  congrArg (fun M : Memref sig .tc .vmem S1x2048x768 .f32 => M.squeeze S2048x768 squeezes_S1x2048x768_S2048x768) (Memref.slice_unit_congr _ e _ _ _ _)
private theorem xblk_congr {off : Fin 2 → Nat} {b : Fin 4} (e : off = blkOff b) (hh hs) :
    xM.slice (Rect.unit (s := S8192x768) off S2048x768.size hh) hs = xblk b := Memref.slice_unit_congr _ e _ _ _ (fun _ => rfl)
private theorem yblk_congr {off : Fin 2 → Nat} {b : Fin 4} (e : off = blkOff b) (hh hs) :
    yM.slice (Rect.unit (s := S8192x768) off S2048x768.size hh) hs = yblk b := Memref.slice_unit_congr _ e _ _ _ (fun _ => rfl)

/-- Before the loop: block 0 into slot 0. -/
@[sl_canon] theorem isem_first (hh) : (cc0_scoped1.slice (Rect.unit (s := S2) k0_off1 S1.size hh)).squeeze S_ squeezes_S1_S_ = isem 0 := isem_congr (by decide) _
@[sl_canon] theorem islot_first (hh hs) : (inM.slice (Rect.unit (s := S2x2048x768) k0_off2 S1x2048x768.size hh) hs).squeeze S2048x768 squeezes_S1x2048x768_S2048x768 = islot 0 := islot_congr (by decide) _ _
@[sl_canon] theorem xblk_first (hh hs) : xM.slice (Rect.unit (s := S8192x768) ![0, 0] S2048x768.size hh) hs = xblk 0 := xblk_congr (by decide) _ _

/-- Trip `k`'s fetch: block `k + 1` into slot `(k + 1) % 2`. -/
@[sl_canon] theorem isem_ahead (k : Trip) (hk : k.val < 3) (hh) :
    (cc0_scoped1.slice (Rect.unit (s := S2) (k0_off3 (w22 k.val)) S1.size hh)).squeeze S_ squeezes_S1_S_ = isem (Ring.sl 2 (k.val + 1)) := isem_congr (off3_eq k hk) _
@[sl_canon] theorem islot_ahead (k : Trip) (hk : k.val < 3) (hh hs) :
    (inM.slice (Rect.unit (s := S2x2048x768) (k0_off4 (w22 k.val)) S1x2048x768.size hh) hs).squeeze S2048x768 squeezes_S1x2048x768_S2048x768 = islot (Ring.sl 2 (k.val + 1)) := islot_congr (off4_eq k hk) _ _
@[sl_canon] theorem xblk_ahead (k : Trip) (hk : k.val < 3) (hh hs) :
    xM.slice (Rect.unit (s := S8192x768) (k0_off5 (w26 k.val)) S2048x768.size hh) hs = xblk (Ring.bk 4 (k.val + 1)) := xblk_congr (off5_eq k hk) _ _

/-- The block trip `k` waits for: block `k` in slot `k % 2`. -/
@[sl_canon] theorem isem_here (k : Trip) (hh) :
    (cc0_scoped1.slice (Rect.unit (s := S2) (k0_off6 (w23 k.val)) S1.size hh)).squeeze S_ squeezes_S1_S_ = isem (Ring.sl 2 k.val) := isem_congr (off6_eq k) _
@[sl_canon] theorem islot_here (k : Trip) (hh hs) :
    (inM.slice (Rect.unit (s := S2x2048x768) (k0_off7 (w23 k.val)) S1x2048x768.size hh) hs).squeeze S2048x768 squeezes_S1x2048x768_S2048x768 = islot (Ring.sl 2 k.val) := islot_congr (off7_eq k) _ _
@[sl_canon] theorem xblk_here (k : Trip) (hh hs) :
    xM.slice (Rect.unit (s := S8192x768) (k0_off8 (w26 k.val)) S2048x768.size hh) hs = xblk (Ring.bk 4 k.val) := xblk_congr (off8_eq k) _ _

/-- Trip `k`'s write-back: slot `k % 2` into block `k`. -/
@[sl_canon] theorem osem_here (k : Trip) (hh) :
    (cc0_scoped3.slice (Rect.unit (s := S2) (k0_off11 (w24 k.val)) S1.size hh)).squeeze S_ squeezes_S1_S_ = osem (Ring.sl 2 k.val) := osem_congr (off11_eq k) _
@[sl_canon] theorem oslot_here (k : Trip) (hh hs) :
    (outM.slice (Rect.unit (s := S2x2048x768) (k0_off13 (w24 k.val)) S1x2048x768.size hh) hs).squeeze S2048x768 squeezes_S1x2048x768_S2048x768 = oslot (Ring.sl 2 k.val) := oslot_congr (off13_eq k) _ _
@[sl_canon] theorem yblk_here (k : Trip) (hh hs) :
    yM.slice (Rect.unit (s := S8192x768) (k0_off12 (w26 k.val)) S2048x768.size hh) hs = yblk (Ring.bk 4 k.val) := yblk_congr (off12_eq k) _ _

/-- The write-back trip `k` waits for: the one the trip before started. -/
@[sl_canon] theorem osem_behind (k : Trip) (hk : 1 ≤ k.val) (hh) :
    (cc0_scoped3.slice (Rect.unit (s := S2) (k0_off14 (w25 k.val)) S1.size hh)).squeeze S_ squeezes_S1_S_ = osem (Ring.sl 2 (k.val + 1)) := osem_congr (off14_eq k hk) _
@[sl_canon] theorem oslot_behind (k : Trip) (hk : 1 ≤ k.val) (hh hs) :
    (outM.slice (Rect.unit (s := S2x2048x768) (k0_off16 (w25 k.val)) S1x2048x768.size hh) hs).squeeze S2048x768 squeezes_S1x2048x768_S2048x768 = oslot (Ring.sl 2 (k.val + 1)) := oslot_congr (off16_eq k hk) _ _
@[sl_canon] theorem yblk_behind (k : Trip) (hk : 1 ≤ k.val) (hh hs) :
    yM.slice (Rect.unit (s := S8192x768) (k0_off15 (w26 k.val)) S2048x768.size hh) hs = yblk (Ring.bk 4 (k.val - 1)) := yblk_congr (off15_eq k hk) _ _

/-- After the loop: the last write-back, from slot 1 into block 3. -/
@[sl_canon] theorem osem_last (hh) : (cc0_scoped3.slice (Rect.unit (s := S2) (k0_off17 (w25 4)) S1.size hh)).squeeze S_ squeezes_S1_S_ = osem 1 := osem_congr off17_eq _
@[sl_canon] theorem oslot_last (hh hs) : (outM.slice (Rect.unit (s := S2x2048x768) (k0_off19 (w25 4)) S1x2048x768.size hh) hs).squeeze S2048x768 squeezes_S1x2048x768_S2048x768 = oslot 1 := oslot_congr off19_eq _ _
@[sl_canon] theorem yblk_last (hh hs) : yM.slice (Rect.unit (s := S8192x768) (k0_off18 (w26 4)) S2048x768.size hh) hs = yblk 3 := yblk_congr off18_eq _ _

end Canon

end Cert.Proof.Moe

end
-- ==== Proof.Trip.lean ====
/-
  One trip of the kernel's loop.
-/
module

public import Idealize.ShloMosaic.Lib.VecWindow
public import Idealize.ShloMosaic.Lib.Pipeline.Value
public import proofs.«01_k».proof.Proof.Names

@[expose] public section

set_option maxRecDepth 16384

noncomputable section

namespace Cert.Proof.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's, beside the counters the kernel's own transfers ride on -/

abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

/-- What the loop reads besides the tokens: the gate's bias and the six prepared weight buffers. -/
structure Wts (F : FTy → Type) [FloatOps F] (c : Dev nD) where
  bg : Buf (Elt F) ((c : Thread nD τ).loc cc0_scratch1)
  wg : Buf (Elt F) ((c : Thread nD τ).loc cc0_scratch6)
  w1 : Buf (Elt F) ((c : Thread nD τ).loc cc0_scratch7)
  b1 : Buf (Elt F) ((c : Thread nD τ).loc cc0_scratch8)
  w2 : Buf (Elt F) ((c : Thread nD τ).loc cc0_scratch9)
  b2 : Buf (Elt F) ((c : Thread nD τ).loc cc0_scratch10)
  sel : Buf (Elt F) ((c : Thread nD τ).loc cc0_scratch11)

/-- A view written whole once reads what was written. -/
theorem read_whole {sp : Space} {s : Shape} {e : EltTy} (v : View sig .tc sp s e) (f : v.ty.Contents (Elt F)) (p : s.Idx → Elt F e) :
    v.read (Elt F) (v.writes (Elt F) f [⟨Rect.whole s, p⟩]) = p := by
  funext x
  have h := View.read_writes_full (Val := Elt F) v f (off := fun _ => 0) (fun a => by simp) p []
  exact congrFun h x

/-- A buffer held whole at contents `f`. -/
abbrev wholeP (c : Dev nD) (r : Ref sig .tc) (f : Buf (Elt F) ((c : Thread nD τ).loc r)) : sProp 𝕄 :=
  (Memref.whole r).view.loc (c : Thread nD τ) ↦[(Memref.whole r).view.set]{fullShare} f

section Pieces
variable (c : Dev nD) (X : Buf (Elt F) (xM.view.loc (c : Thread nD τ))) (Y : Buf (Elt F) (yM.view.loc (c : Thread nD τ)))

/-- The prepared weights, held at contents `w`. -/
abbrev wtsP (w : Wts F c) : sProp 𝕄 :=
  iprop(wholeP c cc0_scratch1 w.bg ∗ wholeP c cc0_scratch6 w.wg ∗ wholeP c cc0_scratch7 w.w1 ∗ wholeP c cc0_scratch8 w.b1
    ∗ wholeP c cc0_scratch9 w.w2 ∗ wholeP c cc0_scratch10 w.b2 ∗ wholeP c cc0_scratch11 w.sel)

/-- A slot's semaphore at zero, in either ring. -/
abbrev icell (s : Fin 2) : sProp 𝕄 := semVal ((c : Thread nD τ), SemLoc.dma (isem s).sem) 0
abbrev ocell (s : Fin 2) : sProp 𝕄 := semVal ((c : Thread nD τ), SemLoc.dma (osem s).sem) 0
/-- A slot held at contents `f`, in either ring. -/
abbrev islotP (s : Fin 2) (f : Buf (Elt F) ((islot s).view.loc (c : Thread nD τ))) : sProp 𝕄 :=
  (islot s).view.loc (c : Thread nD τ) ↦[(islot s).view.set]{fullShare} f
abbrev oslotP (s : Fin 2) (f : Buf (Elt F) ((oslot s).view.loc (c : Thread nD τ))) : sProp 𝕄 :=
  (oslot s).view.loc (c : Thread nD τ) ↦[(oslot s).view.set]{fullShare} f
/-- Block `b` of `x`, and of the result, held. -/
abbrev xblkP (b : Fin 4) : sProp 𝕄 := (xblk b).view.loc (c : Thread nD τ) ↦[(xblk b).view.set]{fullShare} X
abbrev yblkP (b : Fin 4) (f : Buf (Elt F) ((yblk b).view.loc (c : Thread nD τ))) : sProp 𝕄 :=
  (yblk b).view.loc (c : Thread nD τ) ↦[(yblk b).view.set]{fullShare} f

/-- Block `b` of `x`, as a tile of values. -/
abbrev xtile (b : Fin 4) : S2048x768.Idx → Elt F .f32 := (xblk b).view.read (Elt F) X
/-- What fetching block `b` leaves in slot `s`, over `f`. -/
abbrev ilanded (s : Fin 2) (b : Fin 4) (f : Buf (Elt F) ((islot s).view.loc (c : Thread nD τ))) : Buf (Elt F) ((islot s).view.loc (c : Thread nD τ)) :=
  (islot s).view.writes (Elt F) f [⟨Rect.whole S2048x768, ReadAs.same.apply (xtile c X b)⟩]
/-- What writing slot `s`, at `f`, back leaves in block `b` of the result. -/
abbrev olanded (s : Fin 2) (b : Fin 4) (f : Buf (Elt F) ((oslot s).view.loc (c : Thread nD τ))) : Buf (Elt F) ((yblk b).view.loc (c : Thread nD τ)) :=
  (yblk b).view.writes (Elt F) Y [⟨Rect.whole S2048x768, ReadAs.same.apply ((oslot s).view.read (Elt F) f)⟩]
/-- Units a block's transfer moves on its semaphore. -/
abbrev NN : ℕ := 196608
/-- Slot `s` being filled with block `b` of `x`. -/
abbrev iflight (s : Fin 2) (b : Fin 4) (f : Buf (Elt F) ((islot s).view.loc (c : Thread nD τ))) : sProp 𝕄 :=
  Transfers.Flight countersEmb (c : Thread nD τ) (SemLoc.dma (isem s).sem) () NN iprop(islotP c s (ilanded c X s b f) ∗ xblkP c X b)
/-- Slot `s`, at `f`, being written back to block `b` of the result. -/
abbrev oflight (s : Fin 2) (b : Fin 4) (f : Buf (Elt F) ((oslot s).view.loc (c : Thread nD τ))) : sProp 𝕄 :=
  Transfers.Flight countersEmb (c : Thread nD τ) (SemLoc.dma (osem s).sem) () NN iprop(yblkP c b (olanded c Y s b f) ∗ oslotP c s f)

/-! ## What a trip computes -/

/-- The tile of results the loop computes from a tile of tokens and the prepared weights. -/
abbrev tileOut (w : Wts F c) (t : S2048x768.Idx → Elt F .f32) : S2048x768.Idx → Elt F .f32 :=
  shapeCast S2048x768 (k0_pay4 (k0_pay2 (shapeCast S1x2048x768 t shapeCasts_S2048x768_S1x2048x768) w.wg w.bg)
    (k0_pay3 (shapeCast S1x2048x768 t shapeCasts_S2048x768_S1x2048x768) w.w1) w.b1 w.sel w.w2 w.b2) shapeCasts_S1x2048x768_S2048x768
/-- The results of block `b`. -/
abbrev tileB (w : Wts F c) (b : Fin 4) : S2048x768.Idx → Elt F .f32 := tileOut c w (xtile c X b)

/-- A slot of the fetch ring, free; and one being filled with block `b`. -/
abbrev ifree (s : Fin 2) : sProp 𝕄 := iprop(icell c s ∗ ∃ f, islotP c s f)
abbrev iinfl (s : Fin 2) (b : Fin 4) : sProp 𝕄 := iprop(∃ f, iflight c X s b f)
/-- A slot of the write-back ring, free; and one being written back, holding the results of block `b`. -/
abbrev ofree (s : Fin 2) : sProp 𝕄 := iprop(ocell c s ∗ ∃ f, oslotP c s f)
abbrev oinfl (w : Wts F c) (s : Fin 2) (b : Fin 4) : sProp 𝕄 :=
  iprop(∃ f, ⌜(oslot s).view.read (Elt F) f = tileB c X w b⌝ ∗ oflight c Y s b f)
/-- Block `b` of the result, holding its results. -/
abbrev doneP (w : Wts F c) (b : Fin 4) : sProp 𝕄 := iprop(∃ g, ⌜(yblk b).view.read (Elt F) g = tileB c X w b⌝ ∗ yblkP c b g)
/-- The waits owed, at nothing. -/
abbrev owesP : sProp 𝕄 := iprop(∃ W, owes (c : Thread nD τ) 0 W)

/-- A load of half `s` of the fetch ring reads what slot `s` holds, as a `1 × 2048 × 768` vector. -/
theorem load_slot (s : Fin 2) {off : Fin 3 → Nat} (e : off = slotOff s) (hh) (f : Buf (Elt F) ((islot s).view.loc (c : Thread nD τ))) :
    inM.view.readAt (Elt F) (Rect.unit (s := S2x2048x768) off S1x2048x768.size hh).toLoadRect f
      = shapeCast S1x2048x768 ((islot s).view.read (Elt F) f) shapeCasts_S2048x768_S1x2048x768 := by
  subst e
  exact (shapeCast_shapeCast _ shapeCasts_S1x2048x768_S2048x768 shapeCasts_S2048x768_S1x2048x768).symm

/-- A slot just filled with block `b` reads that block. -/
theorem read_ilanded (s : Fin 2) (b : Fin 4) (f : Buf (Elt F) ((islot s).view.loc (c : Thread nD τ))) :
    (islot s).view.read (Elt F) (ilanded c X s b f) = xtile c X b := read_whole _ _ _

/-- A block just written back from a slot reads what the slot held. -/
theorem read_olanded (s : Fin 2) (b : Fin 4) (f : Buf (Elt F) ((oslot s).view.loc (c : Thread nD τ))) :
    (yblk b).view.read (Elt F) (olanded c Y s b f) = (oslot s).view.read (Elt F) f := read_whole _ _ _

/-- A store of the whole of half `s` of the write-back ring leaves its vector in slot `s`. -/
theorem read_stored (s : Fin 2) {off : Fin 3 → Nat} (e : off = slotOff s) (hh) (f : Buf (Elt F) ((oslot s).view.loc (c : Thread nD τ)))
    (P : S1x2048x768.Idx → Elt F .f32) :
    (oslot s).view.read (Elt F) ((outM.access (Rect.unit (s := S2x2048x768) off S1x2048x768.size hh)).write (Elt F) f P Finset.univ)
      = shapeCast S2048x768 P shapeCasts_S1x2048x768_S2048x768 := by
  subst e
  refine (Memref.read_squeeze_slice outM (slotRect s) (fun _ => rfl) squeezes_S1x2048x768_S2048x768 shapeCasts_S1x2048x768_S2048x768 _).trans ?_
  rw [View.readAt_rect]
  exact congrArg (fun z => shapeCast S2048x768 z shapeCasts_S1x2048x768_S2048x768) (View.read_write_univ (v := outM.access (slotRect s)) f P)

end Pieces

section Trip
variable (c : Dev nD) (X : Buf (Elt F) (xM.view.loc (c : Thread nD τ))) (Y : Buf (Elt F) (yM.view.loc (c : Thread nD τ))) (w : Wts F c)
  (v : BitVec 32) (u : BitVec 1)

abbrev tripG (k : Trip) (acc : BitVec 32 × BitVec 32 × BitVec 32 × BitVec 32 × BitVec 32) :
    Prog (TpuEff nD τ sig (Elt F) Λ₀ .tc) (BitVec 32 × BitVec 32 × BitVec 32 × BitVec 32 × BitVec 32) :=
  k0_t1_body (F := F) (Memref.whole main_arg0) (Memref.isWhole_whole _) (Memref.whole main_arg1) (Memref.isWhole_whole _)
    (Memref.whole main_arg2) (Memref.isWhole_whole _) (Memref.whole main_arg3) (Memref.isWhole_whole _) (Memref.whole main_arg4) (Memref.isWhole_whole _)
    (Memref.whole main_arg5) (Memref.isWhole_whole _) (Memref.whole main_arg6) (Memref.isWhole_whole _) (Memref.whole main_v0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    (Memref.whole cc0_scratch6) (Memref.isWhole_whole _) (Memref.whole cc0_scratch7) (Memref.isWhole_whole _) (Memref.whole cc0_scratch8) (Memref.isWhole_whole _)
    (Memref.whole cc0_scratch9) (Memref.isWhole_whole _) (Memref.whole cc0_scratch10) (Memref.isWhole_whole _) (Memref.whole cc0_scratch11) (Memref.isWhole_whole _)
    cc0_scratch12 (Memref.whole cc0_scoped0) (Memref.isWhole_whole _) cc0_scoped1 (Memref.whole cc0_scoped2) (Memref.isWhole_whole _) cc0_scoped3 v u k acc

/-- Weights read whole, and the slot just filled: what the trip stores is the tile of results. -/
theorem stored_tile (k : Trip) (f : Buf (Elt F) ((islot (Ring.sl 2 k.val)).view.loc (c : Thread nD τ)))
    (fo : Buf (Elt F) ((oslot (Ring.sl 2 k.val)).view.loc (c : Thread nD τ))) (h2 : k0_chk2 (w23 k.val)) (h3 : k0_chk3 (w24 k.val)) (hh hh')
    (i6 i1 i7 i8 i11 i9 i10) :
    (oslot (Ring.sl 2 k.val)).view.read (Elt F)
      ((outM.access (Rect.unit (s := S2x2048x768) (k0_off10 (w24 k.val)) S1x2048x768.size hh')).write (Elt F) fo
        (k0_pay4
          (k0_pay2 (inM.view.readAt (Elt F) (Rect.unit (s := S2x2048x768) (k0_off9 (w23 k.val)) S1x2048x768.size hh).toLoadRect
              (ilanded c X (Ring.sl 2 k.val) (Ring.bk 4 k.val) f))
            ((Memref.whole cc0_scratch6).view.readAt (Elt F) (Rect.unit (s := S768x8) ![0, 0] S768x8.size i6).toLoadRect w.wg)
            ((Memref.whole cc0_scratch1).view.readAt (Elt F) (Rect.unit (s := S8) ![0] S8.size i1).toLoadRect w.bg))
          (k0_pay3 (inM.view.readAt (Elt F) (Rect.unit (s := S2x2048x768) (k0_off9 (w23 k.val)) S1x2048x768.size hh).toLoadRect
              (ilanded c X (Ring.sl 2 k.val) (Ring.bk 4 k.val) f))
            ((Memref.whole cc0_scratch7).view.readAt (Elt F) (Rect.unit (s := S768x512) ![0, 0] S768x512.size i7).toLoadRect w.w1))
          ((Memref.whole cc0_scratch8).view.readAt (Elt F) (Rect.unit (s := S1x512) ![0, 0] S1x512.size i8).toLoadRect w.b1)
          ((Memref.whole cc0_scratch11).view.readAt (Elt F) (Rect.unit (s := S8x512) ![0, 0] S8x512.size i11).toLoadRect w.sel)
          ((Memref.whole cc0_scratch9).view.readAt (Elt F) (Rect.unit (s := S512x768) ![0, 0] S512x768.size i9).toLoadRect w.w2)
          ((Memref.whole cc0_scratch10).view.readAt (Elt F) (Rect.unit (s := S8x768) ![0, 0] S8x768.size i10).toLoadRect w.b2)) Finset.univ)
      = tileB c X w (Ring.bk 4 k.val) := by
  have e6 := Memref.readAt_unit_zero (Elt F) cc0_scratch6 (off := ![0, 0]) (by decide) i6 w.wg
  have e1 := Memref.readAt_unit_zero (Elt F) cc0_scratch1 (off := ![0]) (by decide) i1 w.bg
  have e7 := Memref.readAt_unit_zero (Elt F) cc0_scratch7 (off := ![0, 0]) (by decide) i7 w.w1
  have e8 := Memref.readAt_unit_zero (Elt F) cc0_scratch8 (off := ![0, 0]) (by decide) i8 w.b1
  have e11 := Memref.readAt_unit_zero (Elt F) cc0_scratch11 (off := ![0, 0]) (by decide) i11 w.sel
  have e9 := Memref.readAt_unit_zero (Elt F) cc0_scratch9 (off := ![0, 0]) (by decide) i9 w.w2
  have e10 := Memref.readAt_unit_zero (Elt F) cc0_scratch10 (off := ![0, 0]) (by decide) i10 w.b2
  rw [read_stored c _ (off10_eq k), load_slot c _ (off9_eq k), read_ilanded]
  exact congrArg (fun z => shapeCast S2048x768 z shapeCasts_S1x2048x768_S2048x768)
    (congr (congr (congr (congr (congr (congrArg k0_pay4 (congr (congrArg (k0_pay2 _) e6) e1)) (congrArg (k0_pay3 _) e7)) e8) e11) e9) e10)

/-- A trip between the first and the last: the next block's fetch starts, this block's ends, its results start back,
    the block before's end theirs. -/
theorem tripMid (k : Trip) (h1 : 1 ≤ k.val) (h3 : k.val < 3) :
    iprop(wtsP c w ∗ owesP c
      ∗ xblkP c X (Ring.bk 4 (k.val + 1)) ∗ iinfl c X (Ring.sl 2 k.val) (Ring.bk 4 k.val) ∗ ifree c (Ring.sl 2 (k.val + 1))
      ∗ yblkP c (Ring.bk 4 k.val) Y ∗ ofree c (Ring.sl 2 k.val) ∗ oinfl c X Y w (Ring.sl 2 (k.val + 1)) (Ring.bk 4 (k.val - 1)))
    ⊢ wp frame (wpE (defs₀ (F := F)) 𝒱₀ (c : Thread nD τ) none) Set.univ (tripG v u k (accAt k.val)) (fun a =>
      iprop(⌜a = accAt (k.val + 1)⌝ ∗ wtsP c w ∗ owesP c
        ∗ xblkP c X (Ring.bk 4 k.val) ∗ iinfl c X (Ring.sl 2 (k.val + 1)) (Ring.bk 4 (k.val + 1)) ∗ ifree c (Ring.sl 2 k.val)
        ∗ doneP c X w (Ring.bk 4 (k.val - 1)) ∗ oinfl c X Y w (Ring.sl 2 k.val) (Ring.bk 4 k.val) ∗ ofree c (Ring.sl 2 (k.val + 1)))) := by
  have hc1 := cond1_yes k h3
  have hc2 := cond2_yes k
  have hc5 := cond5_yes k
  have hc7 := cond7_yes k h1
  have hk1 := chk1 k
  have hk2 := chk2 k
  have hk3 := chk3 k
  iintro ⟨⟨Wbg, Wwg, Ww1, Wb1, Ww2, Wb2, Wsel⟩, ⟨%W, HW⟩, Hx, ⟨%fi, HFi⟩, ⟨Hic, ⟨%fj, Hj⟩⟩, Hy, ⟨Hoc, ⟨%fo, Ho⟩⟩, ⟨%fp, ⟨%hfp, HFp⟩⟩⟩
  dsimp only [tripG, accAt]
  sl_unfold [k0_t1_body]
  sl_exec
  sl_step
  isplitr
  · ipureintro
    exact (by decide : ∀ j : Trip, 1 ≤ j.val → j.val < 3 → (tripMid.sl.v269_r0 j, tripMid.sl.v358_r0 j, tripMid.sl.v340_r0 j, tripMid.sl.v354_r0 j,
      tripMid.sl.v253_r0 j) = accAt (j.val + 1)) k h1 h3
  isplitl [Wbg Wwg Ww1 Wb1 Ww2 Wb2 Wsel]
  · isplitl [Wbg]; · iexact Wbg
    isplitl [Wwg]; · iexact Wwg
    isplitl [Ww1]; · iexact Ww1
    isplitl [Wb1]; · iexact Wb1
    isplitl [Ww2]; · iexact Ww2
    isplitl [Wb2]; · iexact Wb2
    iexact Wsel
  isplitl [HW]; · iexists _; iexact HW
  isplitl [HFi_src]; · iexact HFi_src
  isplitl [Hic]; · iexists fj; iexact Hic
  isplitl [HFi HFi_dst]
  · isplitl [HFi]; · iexact HFi
    iexists _; iexact HFi_dst
  isplitl [HFp_dst]
  · iexists (olanded c Y (Ring.sl 2 (k.val + 1)) (Ring.bk 4 (k.val - 1)) fp); isplitr; swap; · iexact HFp_dst
    ipureintro; rw [read_olanded c Y (Ring.sl 2 (k.val + 1)) (Ring.bk 4 (k.val - 1)) fp]; exact hfp
  isplitl [Hoc]
  · iexists _; isplitr; swap; · iexact Hoc
    ipureintro
    unfold tripMid.sl.Ho_w1 tripMid.sl.r tripMid.sl.r_1 tripMid.sl.v289_r0
    exact stored_tile c X w k (islot (Ring.sl 2 k.val)).view.junk fo hk2 hk3 _ _ _ _ _ _ _ _ _
  isplitl [HFp]; · iexact HFp
  iexists fp; iexact HFp_src

/-- The first trip: block 1's fetch starts, block 0's ends, its results start back. -/
theorem tripFirst (k : Trip) (h0 : k.val = 0) :
    iprop(wtsP c w ∗ owesP c
      ∗ xblkP c X (Ring.bk 4 (k.val + 1)) ∗ iinfl c X (Ring.sl 2 k.val) (Ring.bk 4 k.val) ∗ ifree c (Ring.sl 2 (k.val + 1))
      ∗ yblkP c (Ring.bk 4 k.val) Y ∗ ofree c (Ring.sl 2 k.val))
    ⊢ wp frame (wpE (defs₀ (F := F)) 𝒱₀ (c : Thread nD τ) none) Set.univ (tripG v u k (accAt k.val)) (fun a =>
      iprop(⌜a = accAt (k.val + 1)⌝ ∗ wtsP c w ∗ owesP c
        ∗ xblkP c X (Ring.bk 4 k.val) ∗ iinfl c X (Ring.sl 2 (k.val + 1)) (Ring.bk 4 (k.val + 1)) ∗ ifree c (Ring.sl 2 k.val)
        ∗ oinfl c X Y w (Ring.sl 2 k.val) (Ring.bk 4 k.val))) := by
  have hc1 := cond1_yes k (by omega)
  have hc2 := cond2_yes k
  have hc5 := cond5_yes k
  have hc7 := cond7_no k (by omega)
  have hk1 := chk1 k
  have hk2 := chk2 k
  have hk3 := chk3 k
  iintro ⟨⟨Wbg, Wwg, Ww1, Wb1, Ww2, Wb2, Wsel⟩, ⟨%W, HW⟩, Hx, ⟨%fi, HFi⟩, ⟨Hic, ⟨%fj, Hj⟩⟩, Hy, ⟨Hoc, ⟨%fo, Ho⟩⟩⟩
  dsimp only [tripG, accAt]
  sl_unfold [k0_t1_body]
  sl_exec
  sl_step
  isplitr
  · ipureintro
    exact (by decide : ∀ j : Trip, j.val = 0 → (tripFirst.sl.v269_r0 j, tripFirst.sl.v358_r0 j, tripFirst.sl.v340_r0 j, tripFirst.sl.v354_r0 j,
      tripFirst.sl.v253_r0 j) = accAt (j.val + 1)) k h0
  isplitl [Wbg Wwg Ww1 Wb1 Ww2 Wb2 Wsel]
  · isplitl [Wbg]; · iexact Wbg
    isplitl [Wwg]; · iexact Wwg
    isplitl [Ww1]; · iexact Ww1
    isplitl [Wb1]; · iexact Wb1
    isplitl [Ww2]; · iexact Ww2
    isplitl [Wb2]; · iexact Wb2
    iexact Wsel
  isplitl [HW]; · iexists _; iexact HW
  isplitl [HFi_src]; · iexact HFi_src
  isplitl [Hic]; · iexists fj; iexact Hic
  isplitl [HFi HFi_dst]
  · isplitl [HFi]; · iexact HFi
    iexists _; iexact HFi_dst
  iexists _; isplitr; swap; · iexact Hoc
  ipureintro
  unfold tripFirst.sl.Ho_w1 tripFirst.sl.r tripFirst.sl.r_1 tripFirst.sl.v289_r0
  exact stored_tile c X w k (islot (Ring.sl 2 k.val)).view.junk fo hk2 hk3 _ _ _ _ _ _ _ _ _

/-- The last trip: nothing is left to fetch; this block's fetch ends, its results start back, the block before's end theirs. -/
theorem tripLast (k : Trip) (h3 : k.val = 3) :
    iprop(wtsP c w ∗ owesP c
      ∗ iinfl c X (Ring.sl 2 k.val) (Ring.bk 4 k.val)
      ∗ yblkP c (Ring.bk 4 k.val) Y ∗ ofree c (Ring.sl 2 k.val) ∗ oinfl c X Y w (Ring.sl 2 (k.val + 1)) (Ring.bk 4 (k.val - 1)))
    ⊢ wp frame (wpE (defs₀ (F := F)) 𝒱₀ (c : Thread nD τ) none) Set.univ (tripG v u k (accAt k.val)) (fun a =>
      iprop(⌜a = accAt (k.val + 1)⌝ ∗ wtsP c w ∗ owesP c
        ∗ xblkP c X (Ring.bk 4 k.val) ∗ ifree c (Ring.sl 2 k.val)
        ∗ doneP c X w (Ring.bk 4 (k.val - 1)) ∗ oinfl c X Y w (Ring.sl 2 k.val) (Ring.bk 4 k.val) ∗ ofree c (Ring.sl 2 (k.val + 1)))) := by
  have hc1 := cond1_no k (by omega)
  have hc2 := cond2_yes k
  have hc5 := cond5_yes k
  have hc7 := cond7_yes k (by omega)
  have hk1 := chk1 k
  have hk2 := chk2 k
  have hk3 := chk3 k
  iintro ⟨⟨Wbg, Wwg, Ww1, Wb1, Ww2, Wb2, Wsel⟩, ⟨%W, HW⟩, ⟨%fi, HFi⟩, Hy, ⟨Hoc, ⟨%fo, Ho⟩⟩, ⟨%fp, ⟨%hfp, HFp⟩⟩⟩
  dsimp only [tripG, accAt]
  sl_unfold [k0_t1_body]
  sl_exec
  sl_step
  isplitr
  · ipureintro
    exact (by decide : ∀ j : Trip, j.val = 3 → (tripLast.sl.v269_r0 j, tripLast.sl.v358_r0 j, tripLast.sl.v340_r0 j, tripLast.sl.v354_r0 j,
      tripLast.sl.v253_r0 j) = accAt (j.val + 1)) k h3
  isplitl [Wbg Wwg Ww1 Wb1 Ww2 Wb2 Wsel]
  · isplitl [Wbg]; · iexact Wbg
    isplitl [Wwg]; · iexact Wwg
    isplitl [Ww1]; · iexact Ww1
    isplitl [Wb1]; · iexact Wb1
    isplitl [Ww2]; · iexact Ww2
    isplitl [Wb2]; · iexact Wb2
    iexact Wsel
  isplitl [HW]; · iexists _; iexact HW
  isplitl [HFi_src]; · iexact HFi_src
  isplitl [HFi HFi_dst]
  · isplitl [HFi]; · iexact HFi
    iexists _; iexact HFi_dst
  isplitl [HFp_dst]
  · iexists (olanded c Y (Ring.sl 2 (k.val + 1)) (Ring.bk 4 (k.val - 1)) fp); isplitr; swap; · iexact HFp_dst
    ipureintro; rw [read_olanded c Y (Ring.sl 2 (k.val + 1)) (Ring.bk 4 (k.val - 1)) fp]; exact hfp
  isplitl [Hoc]
  · iexists _; isplitr; swap; · iexact Hoc
    ipureintro
    unfold tripLast.sl.Ho_w1 tripLast.sl.r tripLast.sl.r_1 tripLast.sl.v289_r0
    exact stored_tile c X w k (islot (Ring.sl 2 k.val)).view.junk fo hk2 hk3 _ _ _ _ _ _ _ _ _
  isplitl [HFp]; · iexact HFp
  iexists fp; iexact HFp_src

end Trip

end Cert.Proof.Moe

end
-- ==== Proof.Loop.lean ====
/-
  The loop's invariant.
-/
module

public import proofs.«01_k».proof.Proof.Trip

@[expose] public section

set_option maxRecDepth 16384

noncomputable section

namespace Cert.Proof.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

theorem entails_of_eq {P Q : sProp 𝕄} (e : P = Q) : P ⊢ Q := e ▸ .rfl

section Loop
variable (c : Dev nD) (X : Buf (Elt F) (xM.view.loc (c : Thread nD τ))) (Y : Buf (Elt F) (yM.view.loc (c : Thread nD τ))) (w : Wts F c)
  (v : BitVec 32) (u : BitVec 1)

/-- The fetch ring before trip `k`: trip `k`'s slot being filled with its block (free after the last trip), the other free. -/
abbrev ringI (k : ℕ) : sProp 𝕄 :=
  iprop(Ring.roleAt (NB := 4) (ifree c (Ring.sl 2 k)) (iinfl c X (Ring.sl 2 k)) k ∗ ifree c (Ring.sl 2 (k + 1)))
/-- The write-back ring before trip `k`: trip `k`'s slot free, the other being written back to the block before (free before
    the first trip). -/
abbrev ringO (k : ℕ) : sProp 𝕄 :=
  iprop(ofree c (Ring.sl 2 k) ∗ Ring.roleBAt (NB := 4) 1 (ofree c (Ring.sl 2 (k + 1))) (oinfl c X Y w (Ring.sl 2 (k + 1))) k)

/-- Before trip `k`: the weights; the blocks of `x` home but the one being fetched; the blocks of the result, those not yet
    reached at their first contents, those written back holding their results; the two rings. -/
def inv (k : ℕ) (a : BitVec 32 × BitVec 32 × BitVec 32 × BitVec 32 × BitVec 32) : sProp 𝕄 :=
  iprop(⌜a = accAt k⌝ ∗ wtsP c w ∗ owesP c ∗ bigSep (Ring.homeSet 1 k) (xblkP c X) ∗ ringI c X k
    ∗ bigSep (Ring.aheadSet k) (fun b : Fin 4 => yblkP c b Y) ∗ bigSep (Ring.behindSet 1 k) (doneP c X w) ∗ ringO c X Y w k)

omit [FloatOps F] in
theorem sl2_add2 (k : ℕ) : Ring.sl 2 (k + 1 + 1) = Ring.sl 2 k := by rw [show k + 1 + 1 = k + 2 from rfl, Ring.sl_add]

/-- Blocks of `x` home before trip `k`, the next one to fetch apart; and before trip `k + 1`, the one just consumed apart. -/
theorem x_here (k : ℕ) (hk : k < 3) :
    bigSep (Ring.homeSet 1 k) (xblkP c X) = iprop(xblkP c X (Ring.bk 4 (k + 1)) ∗ bigSep ((Ring.homeSet 1 k).erase (Ring.bk 4 (k + 1))) (xblkP c X)) := by
  conv_lhs => rw [Ring.homeSet_out 1 k (by omega), bigSep_insert (Ring.bkL_not_mem_erase 1 k)]
  rfl
theorem x_next (k : ℕ) (hk : k < 3) :
    bigSep (Ring.homeSet 1 (k + 1)) (xblkP c X) = iprop(xblkP c X (Ring.bk 4 k) ∗ bigSep ((Ring.homeSet 1 k).erase (Ring.bk 4 (k + 1))) (xblkP c X)) := by
  conv_lhs => rw [Ring.homeSet_succ 1 k (by omega), bigSep_insert (Ring.bk_not_mem_erase 1 k (by omega) (by decide))]
  rfl
theorem x_end :
    bigSep (Ring.homeSet 1 4) (xblkP c X) = iprop(xblkP c X (Ring.bk 4 3) ∗ bigSep (Ring.homeSet 1 3) (xblkP c X)) := by
  conv_lhs => rw [Ring.homeSet_succ_tail 1 3 (by omega) (by omega), bigSep_insert (Ring.bk_not_mem_homeSet 1 3 (by omega) (by decide))]
  rfl
/-- Blocks of the result not reached, trip `k`'s apart; blocks done, the one just landed apart. -/
theorem y_here (k : ℕ) (hk : k < 4) :
    bigSep (Ring.aheadSet k) (fun b : Fin 4 => yblkP c b Y) = iprop(yblkP c (Ring.bk 4 k) Y ∗ bigSep (Ring.aheadSet (k + 1)) (fun b : Fin 4 => yblkP c b Y)) := by
  conv_lhs => rw [Ring.aheadSet_open k hk, bigSep_insert (Ring.bk_not_mem_aheadSet_succ k hk)]
  rfl
theorem done_next (k : ℕ) (h1 : 1 ≤ k) (hk : k < 4) :
    bigSep (Ring.behindSet 1 (k + 1)) (doneP c X w) = iprop(doneP c X w (Ring.bk 4 (k - 1)) ∗ bigSep (Ring.behindSet 1 k) (doneP c X w)) := by
  conv_lhs => rw [Ring.behindSet_close 1 k h1 hk, bigSep_insert (Ring.bk_not_mem_behindSet 1 k h1 hk)]
  rfl

theorem step_mid (k : Trip) (h1 : 1 ≤ k.val) (h3 : k.val < 3) (a) :
    inv c X Y w k.val a ⊢ wp frame (wpE (defs₀ (F := F)) 𝒱₀ (c : Thread nD τ) none) Set.univ (tripG v u k a) (inv c X Y w (k.val + 1)) := by
  unfold inv
  rw [x_here c X k.val h3, x_next c X k.val h3, y_here c Y k.val (by omega), done_next c X w k.val h1 (by omega)]
  unfold ringI ringO
  rw [Ring.roleAt_of_lt _ _ k.val (by omega), Ring.roleAt_of_lt _ _ (k.val + 1) (by omega), Ring.roleBAt_of_le 1 _ _ k.val h1,
    Ring.roleBAt_of_le 1 _ _ (k.val + 1) (by omega), sl2_add2, Nat.add_sub_cancel]
  iintro ⟨%ha, HW, HO, ⟨Hx, Hxs⟩, ⟨Hi, Hj⟩, ⟨Hy, Hys⟩, Hd, ⟨Ho, Hp⟩⟩
  subst ha
  iapply (wp_wand_r Idealize.ShloMosaic.frame (wpE (defs₀ (F := F)) 𝒱₀ (c : Thread nD τ) none) Set.univ)
  isplitl [HW HO Hx Hi Hj Hy Ho Hp]
  · iapply (tripMid c X Y w v u k h1 h3)
    isplitl [HW]; · iexact HW
    isplitl [HO]; · iexact HO
    isplitl [Hx]; · iexact Hx
    isplitl [Hi]; · iexact Hi
    isplitl [Hj]; · iexact Hj
    isplitl [Hy]; · iexact Hy
    isplitl [Ho]; · iexact Ho
    iexact Hp
  · iintro %b ⟨%hb, HW, HO, Hx, Hi, Hj, Hd', Hp, Ho⟩
    isplitr; · ipureintro; exact hb
    isplitl [HW]; · iexact HW
    isplitl [HO]; · iexact HO
    isplitl [Hx Hxs]; · isplitl [Hx]; · iexact Hx
                        iexact Hxs
    isplitl [Hi Hj]; · isplitl [Hi]; · iexact Hi
                       iexact Hj
    isplitl [Hys]; · iexact Hys
    isplitl [Hd Hd']; · isplitl [Hd']; · iexact Hd'
                        iexact Hd
    isplitl [Ho]; · iexact Ho
    iexact Hp

theorem step_first (k : Trip) (h0 : k.val = 0) (a) :
    inv c X Y w k.val a ⊢ wp frame (wpE (defs₀ (F := F)) 𝒱₀ (c : Thread nD τ) none) Set.univ (tripG v u k a) (inv c X Y w (k.val + 1)) := by
  unfold inv
  rw [x_here c X k.val (by omega), x_next c X k.val (by omega), y_here c Y k.val (by omega), Ring.behindSet_boot 1 k.val (by omega),
    Ring.behindSet_boot 1 (k.val + 1) (by omega)]
  unfold ringI ringO
  rw [Ring.roleAt_of_lt _ _ k.val (by omega), Ring.roleAt_of_lt _ _ (k.val + 1) (by omega), Ring.roleBAt_of_lt 1 _ _ k.val (by omega),
    Ring.roleBAt_of_le 1 _ _ (k.val + 1) (by omega), sl2_add2, Nat.add_sub_cancel]
  iintro ⟨%ha, HW, HO, ⟨Hx, Hxs⟩, ⟨Hi, Hj⟩, ⟨Hy, Hys⟩, Hd, ⟨Ho, Hp⟩⟩
  subst ha
  iapply (wp_wand_r Idealize.ShloMosaic.frame (wpE (defs₀ (F := F)) 𝒱₀ (c : Thread nD τ) none) Set.univ)
  isplitl [HW HO Hx Hi Hj Hy Ho]
  · iapply (tripFirst c X Y w v u k h0)
    isplitl [HW]; · iexact HW
    isplitl [HO]; · iexact HO
    isplitl [Hx]; · iexact Hx
    isplitl [Hi]; · iexact Hi
    isplitl [Hj]; · iexact Hj
    isplitl [Hy]; · iexact Hy
    iexact Ho
  · iintro %b ⟨%hb, HW, HO, Hx, Hi, Hj, Ho⟩
    isplitr; · ipureintro; exact hb
    isplitl [HW]; · iexact HW
    isplitl [HO]; · iexact HO
    isplitl [Hx Hxs]; · isplitl [Hx]; · iexact Hx
                        iexact Hxs
    isplitl [Hi Hj]; · isplitl [Hi]; · iexact Hi
                       iexact Hj
    isplitl [Hys]; · iexact Hys
    isplitl [Hd]; · iexact Hd
    isplitl [Hp]; · iexact Hp
    iexact Ho

theorem step_last (k : Trip) (h3 : k.val = 3) (a) :
    inv c X Y w k.val a ⊢ wp frame (wpE (defs₀ (F := F)) 𝒱₀ (c : Thread nD τ) none) Set.univ (tripG v u k a) (inv c X Y w (k.val + 1)) := by
  have ex : bigSep (Ring.homeSet 1 (k.val + 1)) (xblkP c X) = iprop(xblkP c X (Ring.bk 4 k.val) ∗ bigSep (Ring.homeSet 1 k.val) (xblkP c X)) := by
    rw [h3]; exact x_end c X
  unfold inv
  rw [ex, y_here c Y k.val (by omega), done_next c X w k.val (by omega) (by omega)]
  unfold ringI ringO
  rw [Ring.roleAt_of_lt _ _ k.val (by omega), Ring.roleAt_of_le _ _ (k.val + 1) (by omega), Ring.roleBAt_of_le 1 _ _ k.val (by omega),
    Ring.roleBAt_of_le 1 _ _ (k.val + 1) (by omega), sl2_add2, Nat.add_sub_cancel]
  iintro ⟨%ha, HW, HO, Hxs, ⟨Hi, Hj⟩, ⟨Hy, Hys⟩, Hd, ⟨Ho, Hp⟩⟩
  subst ha
  iapply (wp_wand_r Idealize.ShloMosaic.frame (wpE (defs₀ (F := F)) 𝒱₀ (c : Thread nD τ) none) Set.univ)
  isplitl [HW HO Hi Hy Ho Hp]
  · iapply (tripLast c X Y w v u k h3)
    isplitl [HW]; · iexact HW
    isplitl [HO]; · iexact HO
    isplitl [Hi]; · iexact Hi
    isplitl [Hy]; · iexact Hy
    isplitl [Ho]; · iexact Ho
    iexact Hp
  · iintro %b ⟨%hb, HW, HO, Hx, Hi, Hd', Hp, Ho⟩
    isplitr; · ipureintro; exact hb
    isplitl [HW]; · iexact HW
    isplitl [HO]; · iexact HO
    isplitl [Hx Hxs]; · isplitl [Hx]; · iexact Hx
                        iexact Hxs
    isplitl [Hi Hj]; · isplitl [Hj]; · iexact Hj
                       iexact Hi
    isplitl [Hys]; · iexact Hys
    isplitl [Hd Hd']; · isplitl [Hd']; · iexact Hd'
                        iexact Hd
    isplitl [Ho]; · iexact Ho
    iexact Hp

/-- Every trip carries the invariant to the next. -/
theorem step (k : Trip) (a) :
    inv c X Y w k.val a ⊢ wp frame (wpE (defs₀ (F := F)) 𝒱₀ (c : Thread nD τ) none) Set.univ (tripG v u k a) (inv c X Y w (k.val + 1)) := by
  have := trip_lt k
  by_cases h0 : k.val = 0
  · exact step_first c X Y w v u k h0 a
  by_cases h3 : k.val = 3
  · exact step_last c X Y w v u k h3 a
  exact step_mid c X Y w v u k (by omega) (by omega) a

end Loop

end Cert.Proof.Moe

end
-- ==== Proof.Bands.lean ====
/-
  The second layer's weights arrive slab by slab: slab `r` of `W2` (one expert's `64 × 768` matrix) lands in the `r`-th band of
  64 rows of one `512 × 768` buffer.  Here: the buffer whole is its eight bands, and the eight bands after their slabs landed
  are the buffer whole at the slabs stacked.
-/
module

public import proofs.«01_k».proof.Proof.Trip
public import Idealize.ShloMosaic.Lib.Pointwise

@[expose] public section

set_option maxRecDepth 16384

noncomputable section

namespace Cert.Proof.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-- Band `r`: rows `64 r … 64 r + 63`. -/
abbrev bandOff (r : Fin 8) : Fin 2 → Nat := ![64 * r.val, 0]
theorem bandOff_inb (r : Fin 8) : ∀ a, bandOff r a + S64x768.size a ≤ S512x768.size a := by
  have := r.isLt; intro a; fin_cases a
  · show 64 * r.val + 64 ≤ 512; omega
  · show 0 + 768 ≤ 768; omega
abbrev bandRect (r : Fin 8) : Rect S512x768 := Rect.unit (s := S512x768) (bandOff r) S64x768.size (bandOff_inb r)
abbrev band (r : Fin 8) : Memref sig .tc .vmem S64x768 .f32 := (Memref.whole cc0_scratch4).slice (bandRect r) (fun _ => rfl)

/-- Slab `r` of `W2`: expert `r`'s matrix. -/
abbrev slabOff (r : Fin 8) : Fin 3 → Nat := ![r.val, 0, 0]
theorem slabOff_inb (r : Fin 8) : ∀ a, slabOff r a + S1x64x768.size a ≤ S8x64x768.size a := by
  have := r.isLt; intro a; fin_cases a
  · show r.val + 1 ≤ 8; omega
  · show 0 + 64 ≤ 64; omega
  · show 0 + 768 ≤ 768; omega
abbrev slabRect (r : Fin 8) : Rect S8x64x768 := Rect.unit (s := S8x64x768) (slabOff r) S1x64x768.size (slabOff_inb r)
abbrev slab (r : Fin 8) : Memref sig .tc .hbm S64x768 .f32 :=
  ((Memref.whole main_arg5).slice (slabRect r) (fun _ => rfl)).squeeze S64x768 squeezes_S1x64x768_S64x768

section Bands
variable (c : Dev nD)

/-- The slabs stacked: row `64 r + j` is row `j` of slab `r`. -/
def stacked (G : S8x64x768.Idx → Elt F .f32) : S512x768.Idx → Elt F .f32 := fun i =>
  G (ix3 (⟨(i 0).val / 64, by have : (i 0).val < 512 := (i 0).isLt; omega⟩ : Fin 8) (⟨(i 0).val % 64, by omega⟩ : Fin 64) (i 1))

/-- Band `r` held at contents `f`. -/
abbrev bandP (r : Fin 8) (f : Buf (Elt F) ((c : Thread nD τ).loc cc0_scratch4)) : sProp 𝕄 :=
  (band r).view.loc (c : Thread nD τ) ↦[(band r).view.set]{fullShare} f
/-- What slab `r`'s arrival leaves in band `r`. -/
abbrev bandLanded (G : Buf (Elt F) ((c : Thread nD τ).loc main_arg5)) (f : Buf (Elt F) ((c : Thread nD τ).loc cc0_scratch4)) (r : Fin 8) :
    Buf (Elt F) ((c : Thread nD τ).loc cc0_scratch4) :=
  (band r).view.writes (Elt F) f [⟨Rect.whole S64x768, ReadAs.same.apply ((slab r).view.read (Elt F) G)⟩]

theorem band_disjoint (r r' : Fin 8) (h : r ≠ r') : Disjoint (bandRect r).set (bandRect r').set := by
  rw [Finset.disjoint_left]
  intro i hi hi'
  have h0 := (Rect.mem_set_unit.mp hi) 0
  have h1 := (Rect.mem_set_unit.mp hi') 0
  change 64 * r.val ≤ (i 0).val ∧ (i 0).val < 64 * r.val + 64 at h0
  change 64 * r'.val ≤ (i 0).val ∧ (i 0).val < 64 * r'.val + 64 at h1
  exact h (Fin.ext (by omega))
theorem band_cover : Finset.univ.biUnion (fun r => (bandRect r).set) = Finset.univ := by
  ext i
  simp only [Finset.mem_biUnion, Finset.mem_univ, true_and, iff_true]
  have h0 : (i 0).val < 512 := (i 0).isLt
  have h1 : (i 1).val < 768 := (i 1).isLt
  refine ⟨⟨(i 0).val / 64, by omega⟩, Rect.mem_set_unit.mpr fun a => ?_⟩
  fin_cases a
  · show 64 * ((i 0).val / 64) ≤ (i 0).val ∧ (i 0).val < 64 * ((i 0).val / 64) + 64; omega
  · show 0 ≤ (i 1).val ∧ (i 1).val < 0 + 768; omega

omit [FloatOps F] in
theorem bandP_eq (r : Fin 8) (f) : bandP c r f = (((c : Thread nD τ).loc cc0_scratch4) ↦[(bandRect r).set]{fullShare} f : sProp 𝕄) :=
  congrArg (fun S => (_ ↦[S]{fullShare} f : sProp 𝕄)) (View.set_slice_whole _ _)

/-- The buffer held whole is its eight bands held. -/
theorem bands_eq (f : Buf (Elt F) ((c : Thread nD τ).loc cc0_scratch4)) :
    (wholeP c cc0_scratch4 f : sProp 𝕄) = bigSep Finset.univ fun r => bandP c r f := by
  refine (congrArg (fun S => (_ ↦[S]{fullShare} f : sProp 𝕄)) (View.set_whole _)).trans ?_
  refine (Ring.pointsTo_blocks (ℓ := (c : Thread nD τ).loc cc0_scratch4) (fun r => (bandRect r).set) band_disjoint band_cover f).trans ?_
  exact bigSep_congr fun r _ => (bandP_eq c r f).symm

theorem band_read (r : Fin 8) (f : Buf (Elt F) ((c : Thread nD τ).loc cc0_scratch4)) (j : S64x768.Idx) :
    f ((band r).view.emb j) = (band r).view.read (Elt F) f j := rfl
theorem band_emb (r : Fin 8) (a : Fin 64) (b : Fin 768) :
    (band r).view.emb (ix2 a b) = ix2 (⟨64 * r.val + a.val, by omega⟩ : Fin 512) b := by
  refine (eq_ix2 _).trans ((ix2_inj _ _ _ _).mpr ⟨Fin.ext ?_, Fin.ext ?_⟩)
  · show 64 * r.val + 1 * a.val = _; simp
  · show 0 + 1 * b.val = _; simp
theorem cast_slab : S1x64x768.ShapeCasts S64x768 := by decide
omit [FloatOps F] in
theorem cast_slab_at (v : FVec F S1x64x768 .f32) (a : Fin 64) (b : Fin 768) :
    shapeCast S64x768 v cast_slab (ix2 a b) = v (ix3 (0 : Fin 1) a b) := by
  pointwise
theorem slab_read (G : Buf (Elt F) ((c : Thread nD τ).loc main_arg5)) (r : Fin 8) (a : Fin 64) (b : Fin 768) :
    (slab r).view.read (Elt F) G (ix2 a b) = G (ix3 r a b) := by
  refine (congrFun (Memref.read_squeeze_slice (Memref.whole main_arg5) (slabRect r) (fun _ => rfl) squeezes_S1x64x768_S64x768
    cast_slab G) (ix2 a b)).trans ?_
  generalize hv : (Memref.whole main_arg5).view.readAt (Elt F) (slabRect r).toLoadRect G = v
  refine (cast_slab_at v a b).trans ?_
  subst hv
  refine congrArg G ((eq_ix3 _).trans ((ix3_inj _ _ _ _ _ _).mpr ⟨Fin.ext ?_, Fin.ext ?_, Fin.ext ?_⟩))
  · show r.val + 1 * 0 = _; simp
  · show 0 + 1 * a.val = _; simp
  · show 0 + 1 * b.val = _; simp

/-- Where a slab landed, the band holds the slabs stacked. -/
theorem bandLanded_at (G : Buf (Elt F) ((c : Thread nD τ).loc main_arg5)) (f : Buf (Elt F) ((c : Thread nD τ).loc cc0_scratch4)) (r : Fin 8)
    (j : S64x768.Idx) : bandLanded c G f r ((band r).view.emb j) = stacked (F := F) G ((band r).view.emb j) := by
  idx_vars j
  refine (band_read c r _ _).trans ?_
  refine (congrFun (read_whole (band r).view f _) _).trans ?_
  refine (slab_read c G r j0 j1).trans ?_
  rw [band_emb]
  refine congrArg G ((ix3_inj _ _ _ _ _ _).mpr ⟨Fin.ext ?_, Fin.ext ?_, rfl⟩)
  · show r.val = (64 * r.val + j0.val) / 64; omega
  · show j0.val = (64 * r.val + j0.val) % 64; omega

theorem bandP_landed (G : Buf (Elt F) ((c : Thread nD τ).loc main_arg5)) (f : Buf (Elt F) ((c : Thread nD τ).loc cc0_scratch4)) (r : Fin 8) :
    bandP c r (bandLanded c G f r) = bandP c r (stacked (F := F) G) := by
  refine pointsTo_congr fun i hi => ?_
  obtain ⟨j, -, rfl⟩ := Finset.mem_map.mp hi
  exact bandLanded_at c G f r j

/-- A window of the buffer, by its offset. -/
abbrev rowP (off : Fin 2 → Nat) (h : ∀ a, off a + S64x768.size a ≤ S512x768.size a) (f : Buf (Elt F) ((c : Thread nD τ).loc cc0_scratch4)) : sProp 𝕄 :=
  ((Memref.whole cc0_scratch4).slice (Rect.unit (s := S512x768) off S64x768.size h) (fun _ => rfl)).view.loc (c : Thread nD τ)
    ↦[((Memref.whole cc0_scratch4).slice (Rect.unit (s := S512x768) off S64x768.size h) (fun _ => rfl)).view.set]{fullShare} f
theorem rowP_band (r : Fin 8) {off : Fin 2 → Nat} (e : off = bandOff r) (h) (f) : rowP (F := F) c off h f = bandP c r f := by subst e; rfl

theorem bands_list (f : Buf (Elt F) ((c : Thread nD τ).loc cc0_scratch4)) :
    (wholeP c cc0_scratch4 f : sProp 𝕄) = iprop(bandP c 0 f ∗ bandP c 1 f ∗ bandP c 2 f ∗ bandP c 3 f ∗ bandP c 4 f ∗ bandP c 5 f ∗ bandP c 6 f ∗ bandP c 7 f) :=
  (bands_eq c f).trans (bigSep_univ_eq_bigSepL [0, 1, 2, 3, 4, 5, 6, 7] (by decide) (by decide) _)

/-- The buffer whole, cut into its eight windows. -/
theorem bands_split (f : Buf (Elt F) ((c : Thread nD τ).loc cc0_scratch4)) :
    (wholeP c cc0_scratch4 f : sProp 𝕄) ⊢
      iprop(rowP c ![0, 0] inb_S512x768_S64x768_0_0 f ∗ rowP c ![64, 0] inb_S512x768_S64x768_64_0 f ∗ rowP c ![128, 0] inb_S512x768_S64x768_128_0 f
        ∗ rowP c ![192, 0] inb_S512x768_S64x768_192_0 f ∗ rowP c ![256, 0] inb_S512x768_S64x768_256_0 f ∗ rowP c ![320, 0] inb_S512x768_S64x768_320_0 f
        ∗ rowP c ![384, 0] inb_S512x768_S64x768_384_0 f ∗ rowP c ![448, 0] inb_S512x768_S64x768_448_0 f) := by
  rw [bands_list c f, rowP_band c 0 (by decide), rowP_band c 1 (by decide), rowP_band c 2 (by decide), rowP_band c 3 (by decide),
    rowP_band c 4 (by decide), rowP_band c 5 (by decide), rowP_band c 6 (by decide), rowP_band c 7 (by decide)]

/-- The eight windows after their slabs landed: the buffer whole at the slabs stacked. -/
theorem bands_join (G : Buf (Elt F) ((c : Thread nD τ).loc main_arg5)) (f : Buf (Elt F) ((c : Thread nD τ).loc cc0_scratch4)) :
    iprop(rowP c ![0, 0] inb_S512x768_S64x768_0_0 (bandLanded c G f 0) ∗ rowP c ![64, 0] inb_S512x768_S64x768_64_0 (bandLanded c G f 1)
        ∗ rowP c ![128, 0] inb_S512x768_S64x768_128_0 (bandLanded c G f 2) ∗ rowP c ![192, 0] inb_S512x768_S64x768_192_0 (bandLanded c G f 3)
        ∗ rowP c ![256, 0] inb_S512x768_S64x768_256_0 (bandLanded c G f 4) ∗ rowP c ![320, 0] inb_S512x768_S64x768_320_0 (bandLanded c G f 5)
        ∗ rowP c ![384, 0] inb_S512x768_S64x768_384_0 (bandLanded c G f 6) ∗ rowP c ![448, 0] inb_S512x768_S64x768_448_0 (bandLanded c G f 7))
      ⊢ (wholeP c cc0_scratch4 (stacked (F := F) G) : sProp 𝕄) := by
  rw [bands_list c (stacked (F := F) G), rowP_band c 0 (by decide), rowP_band c 1 (by decide), rowP_band c 2 (by decide), rowP_band c 3 (by decide),
    rowP_band c 4 (by decide), rowP_band c 5 (by decide), rowP_band c 6 (by decide), rowP_band c 7 (by decide)]
  simp only [bandP_landed c G f]
  exact .rfl

end Bands

end Cert.Proof.Moe

end
-- ==== Proof.Prep.lean ====
/-
  What the kernel prepares before its loop: six weight buffers, each a plain function of the six weight arguments.
-/
module

public import proofs.«01_k».proof.Proof.Bands

@[expose] public section

set_option maxRecDepth 16384

noncomputable section

namespace Cert.Proof.Moe

open Cert.KernelIdeal Cert.KernelIdeal.Gen
open Idealize.ShloMosaic
open Idealize.ShloMosaic.TcCoe Idealize.ShloMosaic.Tactic

variable {F : FTy → Type} [FloatOps F]

/-- Expert `r`'s first-layer matrix, and its bias. -/
def slab1 (G : FVec F S8x768x64 .f32) (r : Fin 8) : FVec F S1x768x64 .f32 := fun i => G (ix3 r (i 1 : Fin 768) (i 2 : Fin 64))
def row1 (G : FVec F S8x64 .f32) (r : Fin 8) : FVec F S1x64 .f32 := fun i => G (ix2 r (i 1 : Fin 64))

/-- The gate's weights, narrowed. -/
def wgOf (G : FVec F S768x8 .f32) : FVec F S768x8 .bf16 := k0_pay13 G
/-- The eight first-layer matrices side by side, narrowed. -/
def w1Of (G : FVec F S8x768x64 .f32) : FVec F S768x512 .bf16 :=
  k0_pay6 (k0_pay5 (slab1 G 0)) (slab1 G 1) (slab1 G 2) (slab1 G 3) (slab1 G 4) (slab1 G 5) (slab1 G 6) (slab1 G 7)
/-- The eight first-layer biases one after the other, narrowed. -/
def b1Of (G : FVec F S8x64 .f32) : FVec F S1x512 .bf16 :=
  k0_pay12 (k0_pay7 (row1 G 0)) (k0_pay8 (row1 G 1)) (k0_pay9 (row1 G 2)) (k0_pay10 (row1 G 3)) (k0_pay11 (row1 G 4)) (row1 G 5) (row1 G 6) (row1 G 7)
/-- The eight second-layer matrices stacked, narrowed. -/
def w2Of (G : FVec F S8x64x768 .f32) : FVec F S512x768 .bf16 := k0_pay14 (stacked G)
/-- The eight second-layer biases, narrowed. -/
def b2Of (G : FVec F S8x768 .f32) : FVec F S8x768 .bf16 := k0_pay15 G
/-- Which expert a hidden column belongs to, as ones and zeros. -/
def selOf : FVec F S8x512 .bf16 :=
  k0_pay18 (iota .tc S8x512 32 [0] iota_S8x512_d0_w32) (iota .tc S8x512 32 [1] iota_S8x512_d1_w32) 64#32 k0_pay16 k0_pay17

/-- The weights the loop runs on, from the six arguments. -/
def wOf (c : Dev nD) (G1 : FVec F S768x8 .f32) (G2 : FVec F S8 .f32) (G3 : FVec F S8x768x64 .f32) (G4 : FVec F S8x64 .f32)
    (G5 : FVec F S8x64x768 .f32) (G6 : FVec F S8x768 .f32) : Wts F c where
  bg := G2
  wg := wgOf G1
  w1 := w1Of G3
  b1 := b1Of G4
  w2 := w2Of G5
  b2 := b2Of G6
  sel := selOf

/-- A buffer stored whole holds what was stored; -/
theorem stored_unit (r : Ref sig .tc) (f : r.ty.Contents (Elt F)) {off : Fin r.ty.shape.rank → Nat} (inb : ∀ a, off a + r.ty.shape.size a ≤ r.ty.shape.size a)
    (p : (Rect.unit off r.ty.shape.size inb).shape.Idx → Elt F r.ty.elt) :
    (Memref.whole r).view.writes (Elt F) f [⟨Rect.unit off r.ty.shape.size inb, p⟩] = p :=
  View.read_writes_full (Val := Elt F) (Memref.whole r).view f inb p []
/-- one a transfer filled whole holds what was transferred; -/
theorem landed_whole (r : Ref sig .tc) (f p : r.ty.Contents (Elt F)) :
    (Memref.whole r).view.writes (Elt F) f [⟨Rect.whole r.ty.shape, p⟩] = p :=
  read_whole (Memref.whole r).view f p
/-- and a load then reads it. -/
theorem cov_load (r : Ref sig .tc) (p : r.ty.Contents (Elt F)) (B : LoadRect r.ty.shape) :
    (Memref.whole r).view.readCov [⟨Rect.whole r.ty.shape, p⟩] B = (Memref.whole r).view.readAt (Elt F) B p :=
  congrArg (fun g => (Memref.whole r).view.readAt (Elt F) B g) (landed_whole r _ p)

/-- A load of slab `r` of the first layer's matrices; of row `r` of its biases. -/
theorem load_slab1 (G : FVec F S8x768x64 .f32) (r : Fin 8) {off : Fin 3 → Nat} (e : off = ![r.val, 0, 0]) (h) :
    (Memref.whole cc0_scratch2).view.readAt (Elt F) (Rect.unit (s := S8x768x64) off S1x768x64.size h).toLoadRect G = slab1 G r := by
  subst e
  funext i
  refine congrArg G ((eq_ix3 _).trans ((ix3_inj _ _ _ _ _ _).mpr ⟨Fin.ext ?_, Fin.ext ?_, Fin.ext ?_⟩))
  · have : (i 0).val < 1 := (i 0).isLt
    show r.val + 1 * (i 0).val = _; omega
  · show 0 + 1 * (i 1).val = _; omega
  · show 0 + 1 * (i 2).val = _; omega
theorem load_row1 (G : FVec F S8x64 .f32) (r : Fin 8) {off : Fin 2 → Nat} (e : off = ![r.val, 0]) (h) :
    (Memref.whole cc0_scratch3).view.readAt (Elt F) (Rect.unit (s := S8x64) off S1x64.size h).toLoadRect G = row1 G r := by
  subst e
  funext i
  refine congrArg G ((eq_ix2 _).trans ((ix2_inj _ _ _ _).mpr ⟨Fin.ext ?_, Fin.ext ?_⟩))
  · have : (i 0).val < 1 := (i 0).isLt
    show r.val + 1 * (i 0).val = _; omega
  · show 0 + 1 * (i 1).val = _; omega

end Cert.Proof.Moe

end
-- ==== Proof.Body.lean ====
/-
  The kernel's body, whole: the weights are fetched and prepared, the loop runs over the four blocks, the last write-back ends.
-/
module

public import proofs.«01_k».proof.Proof.Loop
public import proofs.«01_k».proof.Proof.Prep

@[expose] public section

set_option maxRecDepth 16384

noncomputable section

namespace Cert.Proof.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

section Body
variable (c : Dev nD) (X : Buf (Elt F) (xM.view.loc (c : Thread nD τ))) (Y : Buf (Elt F) (yM.view.loc (c : Thread nD τ))) (w : Wts F c)

/-! ## The loop's invariant at its two ends -/

set_option warn.classDefReducibility false in
/-- The loop's rule: the invariant and the step of one trip. -/
def loopI (v : BitVec 32) (u : BitVec 1) (init : BitVec 32 × BitVec 32 × BitVec 32 × BitVec 32 × BitVec 32) :
    LoopInvTy_k0_t1 (F := F) Unit ℕ (UU nD τ) ℕ 𝒱₀ c none Set.univ
      (Memref.whole main_arg0) (Memref.isWhole_whole _) (Memref.whole main_arg1) (Memref.isWhole_whole _)
    (Memref.whole main_arg2) (Memref.isWhole_whole _) (Memref.whole main_arg3) (Memref.isWhole_whole _) (Memref.whole main_arg4) (Memref.isWhole_whole _)
    (Memref.whole main_arg5) (Memref.isWhole_whole _) (Memref.whole main_arg6) (Memref.isWhole_whole _) (Memref.whole main_v0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    (Memref.whole cc0_scratch6) (Memref.isWhole_whole _) (Memref.whole cc0_scratch7) (Memref.isWhole_whole _) (Memref.whole cc0_scratch8) (Memref.isWhole_whole _)
    (Memref.whole cc0_scratch9) (Memref.isWhole_whole _) (Memref.whole cc0_scratch10) (Memref.isWhole_whole _) (Memref.whole cc0_scratch11) (Memref.isWhole_whole _)
    cc0_scratch12 (Memref.whole cc0_scoped0) (Memref.isWhole_whole _) cc0_scoped1 (Memref.whole cc0_scoped2) (Memref.isWhole_whole _) cc0_scoped3 v u init where
  inv := inv c X Y w
  step := fun k a => step c X Y w v u k a

/-- Block 0 of `x` apart from the others. -/
theorem x_start : bigSep Finset.univ (xblkP c X) = iprop(xblkP c X 0 ∗ bigSep (Ring.homeSet 1 0) (xblkP c X)) := by
  have e : (Finset.univ : Finset (Fin 4)) = insert 0 (Ring.homeSet (NB := 4) 1 0) := by decide
  rw [e, bigSep_insert (by decide)]; rfl

/-- Before the first trip: block 0 of `x` being fetched into slot 0, all else at rest. -/
theorem inv_start (v : BitVec 32) (u : BitVec 1) :
    iprop(wtsP c w ∗ owesP c ∗ bigSep (Ring.homeSet 1 0) (xblkP c X) ∗ iinfl c X 0 0 ∗ ifree c 1 ∗ bigSep Finset.univ (fun b : Fin 4 => yblkP c b Y)
      ∗ ofree c 0 ∗ ofree c 1) ⊢ (loopI c X Y w v u (accAt 0)).inv 0 (accAt 0) := by
  show _ ⊢ inv c X Y w 0 (accAt 0)
  unfold inv ringI ringO
  rw [Ring.roleAt_of_lt _ _ 0 (by omega), Ring.roleBAt_of_lt 1 _ _ 0 (by omega), show Ring.behindSet (NB := 4) 1 0 = ∅ by decide,
    show Ring.aheadSet (NB := 4) 0 = Finset.univ by decide, bigSep_empty]
  iintro ⟨HW, HO, Hx, Hi, Hj, Hy, Ho, Hp⟩
  isplitr; · ipureintro; rfl
  isplitl [HW]; · iexact HW
  isplitl [HO]; · iexact HO
  isplitl [Hx]; · iexact Hx
  isplitl [Hi Hj]; · isplitl [Hi]; · iexact Hi
                     iexact Hj
  isplitl [Hy]; · iexact Hy
  isplitr; · iempintro
  isplitl [Ho]; · iexact Ho
  iexact Hp

/-- After the last: `x` whole, three blocks of the result written back, the fourth on its way from slot 1. -/
theorem inv_end (v : BitVec 32) (u : BitVec 1) (a) :
    (loopI c X Y w v u (accAt 0)).inv (Scf.trips k0_t1_loop.lb k0_t1_loop.ub k0_t1_loop.st) a ⊢ iprop(⌜a = accAt 4⌝ ∗ wtsP c w ∗ owesP c ∗ bigSep Finset.univ (xblkP c X) ∗ (ifree c 0 ∗ ifree c 1)
      ∗ (doneP c X w 0 ∗ doneP c X w 1 ∗ doneP c X w 2) ∗ ofree c 0 ∗ oinfl c X Y w 1 3) := by
  have ed : bigSep (Ring.behindSet (NB := 4) 1 4) (doneP c X w) = iprop(doneP c X w 0 ∗ doneP c X w 1 ∗ doneP c X w 2) :=
    bigSep_eq_bigSepL_of_eq [0, 1, 2] (by decide) (by decide) _
  rw [show Scf.trips k0_t1_loop.lb k0_t1_loop.ub k0_t1_loop.st = 4 from trips_eq]
  show inv c X Y w 4 a ⊢ _
  unfold inv ringI ringO
  rw [Ring.roleAt_of_le _ _ 4 (by omega), Ring.roleBAt_of_le 1 _ _ 4 (by omega), show Ring.homeSet (NB := 4) 1 4 = Finset.univ by decide, ed]
  iintro ⟨%ha, HW, HO, Hx, ⟨Hi, Hj⟩, Hy, ⟨D0, D1, D2⟩, ⟨Ho, Hp⟩⟩
  isplitr; · ipureintro; exact ha
  isplitl [HW]; · iexact HW
  isplitl [HO]; · iexact HO
  isplitl [Hx]; · iexact Hx
  isplitl [Hi Hj]; · isplitl [Hi]; · iexact Hi
                     iexact Hj
  isplitl [D0 D1 D2]; · isplitl [D0]; · iexact D0
                        isplitl [D1]; · iexact D1
                        iexact D2
  isplitl [Ho]; · iexact Ho
  iexact Hp

end Body

omit [FloatOps F] in
/-- Four blocks, one by one. -/
theorem four_eq (Φ : Fin 4 → sProp 𝕄) : bigSep Finset.univ Φ = iprop(Φ 0 ∗ Φ 1 ∗ Φ 2 ∗ Φ 3) :=
  bigSep_univ_eq_bigSepL [0, 1, 2, 3] (by decide) (by decide) Φ

section Run
variable (c : Dev nD) (X : Buf (Elt F) (xM.view.loc (c : Thread nD τ))) (Y : Buf (Elt F) (yM.view.loc (c : Thread nD τ)))
  (G1 : Buf (Elt F) ((c : Thread nD τ).loc main_arg1)) (G2 : Buf (Elt F) ((c : Thread nD τ).loc main_arg2))
  (G3 : Buf (Elt F) ((c : Thread nD τ).loc main_arg3)) (G4 : Buf (Elt F) ((c : Thread nD τ).loc main_arg4))
  (G5 : Buf (Elt F) ((c : Thread nD τ).loc main_arg5)) (G6 : Buf (Elt F) ((c : Thread nD τ).loc main_arg6))

/-- One of the thirteen semaphores of the weights' fetches, at zero. -/
abbrev pcell (off : Fin 1 → Nat) (h : ∀ a, off a + S1.size a ≤ S13.size a) : sProp 𝕄 :=
  semVal ((c : Thread nD τ), SemLoc.dma ((cc0_scratch12.slice (Rect.unit (s := S13) off S1.size h)).squeeze S_ squeezes_S1_S_).sem) 0
abbrev pcells : sProp 𝕄 :=
  iprop(pcell c ![0] inb_S13_S1_0 ∗ pcell c ![1] inb_S13_S1_1 ∗ pcell c ![2] inb_S13_S1_2 ∗ pcell c ![3] inb_S13_S1_3 ∗ pcell c ![4] inb_S13_S1_4
    ∗ pcell c ![5] inb_S13_S1_5 ∗ pcell c ![6] inb_S13_S1_6 ∗ pcell c ![7] inb_S13_S1_7 ∗ pcell c ![8] inb_S13_S1_8 ∗ pcell c ![9] inb_S13_S1_9
    ∗ pcell c ![10] inb_S13_S1_10 ∗ pcell c ![11] inb_S13_S1_11 ∗ pcell c ![12] inb_S13_S1_12)
/-- The six weight arguments held. -/
abbrev argsP : sProp 𝕄 :=
  iprop(wholeP c main_arg1 G1 ∗ wholeP c main_arg2 G2 ∗ wholeP c main_arg3 G3 ∗ wholeP c main_arg4 G4 ∗ wholeP c main_arg5 G5 ∗ wholeP c main_arg6 G6)
/-- A scratch buffer held whole, at anything. -/
abbrev anyP (r : Ref sig .tc) : sProp 𝕄 := iprop(∃ f, wholeP (F := F) c r f)
/-- The twelve buffers the weights go through. -/
abbrev scratchP : sProp 𝕄 :=
  iprop(anyP (F := F) c cc0_scratch0 ∗ anyP (F := F) c cc0_scratch1 ∗ anyP (F := F) c cc0_scratch2 ∗ anyP (F := F) c cc0_scratch3 ∗ anyP (F := F) c cc0_scratch4 ∗ anyP (F := F) c cc0_scratch5 ∗ anyP (F := F) c cc0_scratch6
    ∗ anyP (F := F) c cc0_scratch7 ∗ anyP (F := F) c cc0_scratch8 ∗ anyP (F := F) c cc0_scratch9 ∗ anyP (F := F) c cc0_scratch10 ∗ anyP (F := F) c cc0_scratch11)
/-- The two rings at rest. -/
abbrev ringsP : sProp 𝕄 := iprop((ifree (F := F) c 0 ∗ ifree (F := F) c 1) ∗ ofree (F := F) c 0 ∗ ofree (F := F) c 1)

set_option maxHeartbeats 4000000 in
/-- The body: from the arguments, the scratch and the semaphores at zero, it ends with the same and every block of the result
    holding the results of its block of `x`. -/
theorem bodyRun (W) (t) :
    iprop(argsP c G1 G2 G3 G4 G5 G6 ∗ scratchP (F := F) c ∗ pcells c ∗ owes (c : Thread nD τ) 0 W ∗ bigSep Finset.univ (xblkP c X)
      ∗ ringsP (F := F) c ∗ bigSep Finset.univ (fun b : Fin 4 => yblkP c b Y))
    ⊢ wp frame (wpE (defs₀ (F := F)) 𝒱₀ (c : Thread nD τ) none) Set.univ (bodyAt0 (F := F) t) (fun _ =>
      iprop(argsP c G1 G2 G3 G4 G5 G6 ∗ scratchP (F := F) c ∗ pcells c ∗ owesP c ∗ bigSep Finset.univ (xblkP c X)
        ∗ ringsP (F := F) c ∗ bigSep Finset.univ (doneP c X (wOf c G1 G2 G3 G4 G5 G6)))) := by
  rw [x_start c X]
  iintro ⟨⟨A1, A2, A3, A4, A5, A6⟩, ⟨⟨%f0, B0⟩, ⟨%f1, B1⟩, ⟨%f2, B2⟩, ⟨%f3, B3⟩, ⟨%f4, B4⟩, ⟨%f5, B5⟩, ⟨%f6, B6⟩, ⟨%f7, B7⟩, ⟨%f8, B8⟩, ⟨%f9, B9⟩,
    ⟨%f10, B10⟩, ⟨%f11, B11⟩⟩, ⟨C0, C1, C2, C3, C4, C5, C6, C7, C8, C9, C10, C11, C12⟩, HW, ⟨Hx, Hxs⟩, ⟨⟨⟨Hic, ⟨%fs, Hs⟩⟩, Hj⟩, Ho, Hp⟩, Hy⟩
  ihave HR := (bands_split c f4) $$ B4
  icases HR with ⟨R0, R1, R2, R3, R4, R5, R6, R7⟩
  sl_exec
  ihave B4 := (bands_join c G5 f4) $$ [R0 R1 R2 R3 R4 R5 R6 R7]
  · isplitl [R0]; · iexact R0
    isplitl [R1]; · iexact R1
    isplitl [R2]; · iexact R2
    isplitl [R3]; · iexact R3
    isplitl [R4]; · iexact R4
    isplitl [R5]; · iexact R5
    isplitl [R6]; · iexact R6
    iexact R7
  sl_exec
  have hwg : (Memref.whole cc0_scratch6).view.writes (Elt F) (Memref.whole cc0_scratch6).view.junk
      [⟨Rect.unit ![0, 0] S768x8.size inb_S768x8_S768x8_0_0, k0_pay13 (bodyRun.sl.v143 c G1)⟩] = wgOf G1 :=
    (stored_unit cc0_scratch6 _ inb_S768x8_S768x8_0_0 _).trans (congrArg k0_pay13 ((cov_load cc0_scratch0 (bodyRun.sl.dma0 c G1) _).trans
      (Memref.readAt_unit_zero (Elt F) cc0_scratch0 (off := ![0, 0]) (by decide) inb_S768x8_S768x8_0_0 G1)))
  have hs (r : Fin 8) {off : Fin 3 → Nat} (e : off = ![r.val, 0, 0]) (h) :
      (Memref.whole cc0_scratch2).view.readCov [⟨Rect.whole cc0_scratch2.ty.shape, bodyRun.sl.dma0_2 c G3⟩]
        (Rect.unit (s := S8x768x64) off S1x768x64.size h).toLoadRect = slab1 (F := F) G3 r :=
    (cov_load cc0_scratch2 (bodyRun.sl.dma0_2 c G3) _).trans (load_slab1 G3 r e h)
  have hr (r : Fin 8) {off : Fin 2 → Nat} (e : off = ![r.val, 0]) (h) :
      (Memref.whole cc0_scratch3).view.readCov [⟨Rect.whole cc0_scratch3.ty.shape, bodyRun.sl.dma0_3 c G4⟩]
        (Rect.unit (s := S8x64) off S1x64.size h).toLoadRect = row1 (F := F) G4 r :=
    (cov_load cc0_scratch3 (bodyRun.sl.dma0_3 c G4) _).trans (load_row1 G4 r e h)
  have hw1 : (Memref.whole cc0_scratch7).view.writes (Elt F) (Memref.whole cc0_scratch7).view.junk
      [⟨Rect.unit ![0, 0] S768x512.size inb_S768x512_S768x512_0_0, k0_pay6 (bodyRun.sl.v101 c G3) (bodyRun.sl.v102 c G3) (bodyRun.sl.v104 c G3)
        (bodyRun.sl.v106 c G3) (bodyRun.sl.v108 c G3) (bodyRun.sl.v110 c G3) (bodyRun.sl.v112 c G3) (bodyRun.sl.v114 c G3)⟩] = w1Of G3 :=
    (stored_unit cc0_scratch7 _ inb_S768x512_S768x512_0_0 _).trans (by
      have e0 : bodyRun.sl.v101 c G3 = k0_pay5 (slab1 (F := F) G3 0) := congrArg k0_pay5 (hs 0 rfl inb_S8x768x64_S1x768x64_0_0_0)
      have e1 : bodyRun.sl.v102 c G3 = slab1 (F := F) G3 1 := hs 1 rfl inb_S8x768x64_S1x768x64_1_0_0
      have e2 : bodyRun.sl.v104 c G3 = slab1 (F := F) G3 2 := hs 2 rfl inb_S8x768x64_S1x768x64_2_0_0
      have e3 : bodyRun.sl.v106 c G3 = slab1 (F := F) G3 3 := hs 3 rfl inb_S8x768x64_S1x768x64_3_0_0
      have e4 : bodyRun.sl.v108 c G3 = slab1 (F := F) G3 4 := hs 4 rfl inb_S8x768x64_S1x768x64_4_0_0
      have e5 : bodyRun.sl.v110 c G3 = slab1 (F := F) G3 5 := hs 5 rfl inb_S8x768x64_S1x768x64_5_0_0
      have e6 : bodyRun.sl.v112 c G3 = slab1 (F := F) G3 6 := hs 6 rfl inb_S8x768x64_S1x768x64_6_0_0
      have e7 : bodyRun.sl.v114 c G3 = slab1 (F := F) G3 7 := hs 7 rfl inb_S8x768x64_S1x768x64_7_0_0
      rw [e0, e1, e2, e3, e4, e5, e6, e7]; rfl)
  have hb1 : (Memref.whole cc0_scratch8).view.writes (Elt F) (Memref.whole cc0_scratch8).view.junk
      [⟨Rect.unit ![0, 0] S1x512.size inb_S1x512_S1x512_0_0, k0_pay12 (bodyRun.sl.r c G4) (bodyRun.sl.r_1 c G4) (bodyRun.sl.r_2 c G4)
        (bodyRun.sl.r_3 c G4) (bodyRun.sl.r_4 c G4) (bodyRun.sl.v131 c G4) (bodyRun.sl.v133 c G4) (bodyRun.sl.v135 c G4)⟩] = b1Of G4 :=
    (stored_unit cc0_scratch8 _ inb_S1x512_S1x512_0_0 _).trans (by
      have e0 : bodyRun.sl.r c G4 = k0_pay7 (row1 (F := F) G4 0) := congrArg k0_pay7 (hr 0 rfl inb_S8x64_S1x64_0_0)
      have e1 : bodyRun.sl.r_1 c G4 = k0_pay8 (row1 (F := F) G4 1) := congrArg k0_pay8 (hr 1 rfl inb_S8x64_S1x64_1_0)
      have e2 : bodyRun.sl.r_2 c G4 = k0_pay9 (row1 (F := F) G4 2) := congrArg k0_pay9 (hr 2 rfl inb_S8x64_S1x64_2_0)
      have e3 : bodyRun.sl.r_3 c G4 = k0_pay10 (row1 (F := F) G4 3) := congrArg k0_pay10 (hr 3 rfl inb_S8x64_S1x64_3_0)
      have e4 : bodyRun.sl.r_4 c G4 = k0_pay11 (row1 (F := F) G4 4) := congrArg k0_pay11 (hr 4 rfl inb_S8x64_S1x64_4_0)
      have e5 : bodyRun.sl.v131 c G4 = row1 (F := F) G4 5 := hr 5 rfl inb_S8x64_S1x64_5_0
      have e6 : bodyRun.sl.v133 c G4 = row1 (F := F) G4 6 := hr 6 rfl inb_S8x64_S1x64_6_0
      have e7 : bodyRun.sl.v135 c G4 = row1 (F := F) G4 7 := hr 7 rfl inb_S8x64_S1x64_7_0
      rw [e0, e1, e2, e3, e4, e5, e6, e7]; rfl)
  have hw2 : (Memref.whole cc0_scratch9).view.writes (Elt F) (Memref.whole cc0_scratch9).view.junk (bodyRun.sl.B9_1 c G5) = w2Of (F := F) G5 :=
    (stored_unit cc0_scratch9 _ inb_S512x768_S512x768_0_0 _).trans (congrArg k0_pay14
      (Memref.readAt_unit_zero (Elt F) cc0_scratch4 (off := ![0, 0]) (by decide) inb_S512x768_S512x768_0_0 (stacked (F := F) G5)))
  have hb2 : (Memref.whole cc0_scratch10).view.writes (Elt F) (Memref.whole cc0_scratch10).view.junk (bodyRun.sl.B10_1 c G6) = b2Of (F := F) G6 :=
    (stored_unit cc0_scratch10 _ inb_S8x768_S8x768_0_0 _).trans (congrArg k0_pay15 ((cov_load cc0_scratch5 (bodyRun.sl.dma0_4 c G6) _).trans
      (Memref.readAt_unit_zero (Elt F) cc0_scratch5 (off := ![0, 0]) (by decide) inb_S8x768_S8x768_0_0 G6)))
  have hsel : (Memref.whole cc0_scratch11).view.writes (Elt F) (Memref.whole cc0_scratch11).view.junk (bodyRun.sl.B11_1 (F := F)) = selOf (F := F) :=
    stored_unit cc0_scratch11 _ inb_S8x512_S8x512_0_0 _
  have hbg : (Memref.whole cc0_scratch1).view.writes (Elt F) (Memref.whole cc0_scratch1).view.junk
      [⟨Rect.whole cc0_scratch1.ty.shape, bodyRun.sl.dma0_1 c G2⟩] = G2 := landed_whole cc0_scratch1 _ G2
  iapply (exec_loop _ _ _ _ _ _ _ _ _ (loopI c X Y (wOf c G1 G2 G3 G4 G5 G6) _ _ (accAt 0))) $$ [B1 B6 B7 B8 B9 B10 B11 HW Hxs Hic Hj Hy Ho Hp]
  · iapply (inv_start c X Y (wOf c G1 G2 G3 G4 G5 G6) _ _)
    isplitl [B1 B6 B7 B8 B9 B10 B11]
    · isplitl [B1]; · iapply (entails_of_eq (congrArg (fun f => wholeP (F := F) c cc0_scratch1 f) hbg)); iexact B1
      isplitl [B6]; · iapply (entails_of_eq (congrArg (fun f => wholeP (F := F) c cc0_scratch6 f) hwg)); iexact B6
      isplitl [B7]; · iapply (entails_of_eq (congrArg (fun f => wholeP (F := F) c cc0_scratch7 f) hw1)); iexact B7
      isplitl [B8]; · iapply (entails_of_eq (congrArg (fun f => wholeP (F := F) c cc0_scratch8 f) hb1)); iexact B8
      isplitl [B9]; · iapply (entails_of_eq (congrArg (fun f => wholeP (F := F) c cc0_scratch9 f) hw2)); iexact B9
      isplitl [B10]; · iapply (entails_of_eq (congrArg (fun f => wholeP (F := F) c cc0_scratch10 f) hb2)); iexact B10
      iapply (entails_of_eq (congrArg (fun f => wholeP (F := F) c cc0_scratch11 f) hsel)); iexact B11
    isplitl [HW]; · iexists _; iexact HW
    isplitl [Hxs]; · iexact Hxs
    isplitl [Hic]; · iexists fs; iexact Hic
    isplitl [Hj]; · iexact Hj
    isplitl [Hy]; · iexact Hy
    isplitl [Ho]; · iexact Ho
    iexact Hp
  iintro %acc HI
  ihave HE := (inv_end c X Y (wOf c G1 G2 G3 G4 G5 G6) _ _ acc) $$ HI
  icases HE with ⟨%ha, ⟨Wbg, Wwg, Ww1, Wb1, Ww2, Wb2, Wsel⟩, ⟨%W', HW⟩, Hx, Hi, ⟨D0, D1, D2⟩, Ho, ⟨%fp, ⟨%hfp, HFp⟩⟩⟩
  subst ha
  have hk4 : k0_chk4 (accAt 4).2.2.2.1 := chk4
  have hk5 : k0_chk5 (accAt 4).2.2.2.2 := chk5
  dsimp only [accAt]
  sl_exec
  sl_step
  isplitl [A1 A2 A3 A4 A5 A6]
  · isplitl [A1]; · iexact A1
    isplitl [A2]; · iexact A2
    isplitl [A3]; · iexact A3
    isplitl [A4]; · iexact A4
    isplitl [A5]; · iexact A5
    iexact A6
  isplitl [B0 Wbg B2 B3 B4 B5 Wwg Ww1 Wb1 Ww2 Wb2 Wsel]
  · isplitl [B0]; · iexists _; iexact B0
    isplitl [Wbg]; · iexists _; iexact Wbg
    isplitl [B2]; · iexists _; iexact B2
    isplitl [B3]; · iexists _; iexact B3
    isplitl [B4]; · iexists _; iexact B4
    isplitl [B5]; · iexists _; iexact B5
    isplitl [Wwg]; · iexists _; iexact Wwg
    isplitl [Ww1]; · iexists _; iexact Ww1
    isplitl [Wb1]; · iexists _; iexact Wb1
    isplitl [Ww2]; · iexists _; iexact Ww2
    isplitl [Wb2]; · iexists _; iexact Wb2
    iexists _; iexact Wsel
  isplitl [C0 C1 C2 C3 C4 C5 C6 C7 C8 C9 C10 C11 C12]
  · isplitl [C0]; · iexact C0
    isplitl [C1]; · iexact C1
    isplitl [C2]; · iexact C2
    isplitl [C3]; · iexact C3
    isplitl [C4]; · iexact C4
    isplitl [C5]; · iexact C5
    isplitl [C6]; · iexact C6
    isplitl [C7]; · iexact C7
    isplitl [C8]; · iexact C8
    isplitl [C9]; · iexact C9
    isplitl [C10]; · iexact C10
    isplitl [C11]; · iexact C11
    iexact C12
  isplitl [HW]; · iexists _; iexact HW
  isplitl [Hx]; · iapply (entails_of_eq (x_start c X)); iexact Hx
  isplitl [Hi Ho HFp HFp_src]
  · isplitl [Hi]; · iexact Hi
    isplitl [Ho]; · iexact Ho
    isplitl [HFp]; · iexact HFp
    iexists fp; iexact HFp_src
  iapply (entails_of_eq (four_eq (doneP c X (wOf c G1 G2 G3 G4 G5 G6))).symm)
  isplitl [D0]; · iexact D0
  isplitl [D1]; · iexact D1
  isplitl [D2]; · iexact D2
  iexists (olanded c Y 1 3 fp); isplitr; swap; · iexact HFp_dst
  ipureintro; rw [read_olanded c Y 1 3 fp]; exact hfp

end Run

end Cert.Proof.Moe

end
-- ==== Proof.Cuts.lean ====
/-
  The arrays whole, cut into the blocks and slots the body works on, and put together again; the array of results.
-/
module

public import proofs.«01_k».proof.Proof.Body

@[expose] public section

set_option maxRecDepth 16384

noncomputable section

namespace Cert.Proof.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

section Cuts
variable (c : Dev nD)

theorem blk_disjoint (b b' : Fin 4) (h : b ≠ b') : Disjoint (blkRect b).set (blkRect b').set :=
  Ring.lead_disjoint (s := S8192x768) (0 : Fin 2) 2048 blkOff S2048x768.size blkOff_inb (fun _ => rfl) rfl b b' h
theorem blk_cover : Finset.univ.biUnion (fun b => (blkRect b).set) = Finset.univ :=
  Ring.lead_cover (s := S8192x768) (0 : Fin 2) 2048 blkOff S2048x768.size blkOff_inb (fun _ => rfl) (by decide) rfl (by decide) (by decide)
theorem slot_disjoint (s s' : Fin 2) (h : s ≠ s') : Disjoint (slotRect s).set (slotRect s').set :=
  Ring.lead_disjoint (s := S2x2048x768) (0 : Fin 3) 1 slotOff S1x2048x768.size slotOff_inb (fun _ => by simp [slotOff]) rfl s s' h
theorem slot_cover : Finset.univ.biUnion (fun s => (slotRect s).set) = Finset.univ :=
  Ring.lead_cover (s := S2x2048x768) (0 : Fin 3) 1 slotOff S1x2048x768.size slotOff_inb (fun _ => by simp [slotOff]) (by decide) rfl (by decide) (by decide)

/-- A buffer held at all its elements is the buffer held whole. -/
theorem whole_eq (r : Ref sig .tc) (f : Buf (Elt F) ((c : Thread nD τ).loc r)) :
    (((c : Thread nD τ).loc r) ↦{fullShare} f : sProp 𝕄) = wholeP c r f :=
  (congrArg (fun S => (((c : Thread nD τ).loc r) ↦[S]{fullShare} f : sProp 𝕄)) (View.set_whole r)).symm

/-- `x` whole is its four blocks. -/
theorem x_eq (f : Buf (Elt F) ((c : Thread nD τ).loc main_arg0)) :
    (((c : Thread nD τ).loc main_arg0) ↦{fullShare} f : sProp 𝕄) = bigSep Finset.univ (xblkP c f) := by
  refine (Ring.pointsTo_blocks (ℓ := (c : Thread nD τ).loc main_arg0) (fun b => (blkRect b).set) blk_disjoint blk_cover f).trans ?_
  exact bigSep_congr fun b _ =>
    congrArg (fun S => (((c : Thread nD τ).loc main_arg0) ↦[S]{fullShare} f : sProp 𝕄)) (View.set_slice_whole _ _).symm
/-- The result whole is its four blocks. -/
theorem y_eq (f : Buf (Elt F) ((c : Thread nD τ).loc main_v0)) :
    (((c : Thread nD τ).loc main_v0) ↦{fullShare} f : sProp 𝕄) = bigSep Finset.univ (fun b : Fin 4 => yblkP c b f) := by
  refine (Ring.pointsTo_blocks (ℓ := (c : Thread nD τ).loc main_v0) (fun b => (blkRect b).set) blk_disjoint blk_cover f).trans ?_
  exact bigSep_congr fun b _ =>
    congrArg (fun S => (((c : Thread nD τ).loc main_v0) ↦[S]{fullShare} f : sProp 𝕄)) (View.set_slice_whole _ _).symm

omit [FloatOps F] in
theorem two_eq (Φ : Fin 2 → sProp 𝕄) : bigSep Finset.univ Φ = iprop(Φ 0 ∗ Φ 1) :=
  bigSep_univ_eq_bigSepL [0, 1] (by decide) (by decide) Φ

theorem islotP_eq (s : Fin 2) (f) : islotP (F := F) c s f = (((c : Thread nD τ).loc cc0_scoped0) ↦[(slotRect s).set]{fullShare} f : sProp 𝕄) :=
  congrArg (fun S => (((c : Thread nD τ).loc cc0_scoped0) ↦[S]{fullShare} f : sProp 𝕄)) ((View.set_reshape _ _).trans (View.set_slice_whole _ _))
theorem oslotP_eq (s : Fin 2) (f) : oslotP (F := F) c s f = (((c : Thread nD τ).loc cc0_scoped2) ↦[(slotRect s).set]{fullShare} f : sProp 𝕄) :=
  congrArg (fun S => (((c : Thread nD τ).loc cc0_scoped2) ↦[S]{fullShare} f : sProp 𝕄)) ((View.set_reshape _ _).trans (View.set_slice_whole _ _))

/-- The fetch ring whole is its two slots, each at anything; and back. -/
theorem iring_split :
    iprop(∃ f : Buf (Elt F) ((c : Thread nD τ).loc cc0_scoped0), ((c : Thread nD τ).loc cc0_scoped0) ↦{fullShare} f)
      ⊢ (iprop((∃ f, islotP c 0 f) ∗ ∃ f, islotP c 1 f) : sProp 𝕄) := by
  iintro ⟨%f, H⟩
  ihave H2 := (entails_of_eq ((Ring.pointsTo_blocks (Ix := Unit) (Name := ℕ) (U := UU nD τ) (Lvl := ℕ) (q := fullShare)
    (ℓ := (c : Thread nD τ).loc cc0_scoped0) (fun s => (slotRect s).set) slot_disjoint slot_cover f).trans (two_eq _))) $$ H
  icases H2 with ⟨H0, H1⟩
  isplitl [H0]
  · iexists f; iapply (entails_of_eq (islotP_eq c 0 f).symm); iexact H0
  · iexists f; iapply (entails_of_eq (islotP_eq c 1 f).symm); iexact H1
theorem iring_join :
    iprop((∃ f, islotP c 0 f) ∗ ∃ f, islotP c 1 f)
      ⊢ (iprop(∃ f : Buf (Elt F) ((c : Thread nD τ).loc cc0_scoped0), ((c : Thread nD τ).loc cc0_scoped0) ↦{fullShare} f) : sProp 𝕄) := by
  iintro ⟨⟨%f0, H0⟩, ⟨%f1, H1⟩⟩
  iapply (Ring.pointsTo_blocks_join_exists (ℓ := (c : Thread nD τ).loc cc0_scoped0) (fun s => (slotRect s).set) slot_disjoint slot_cover f0)
  irw [two_eq]
  isplitl [H0]
  · iexists f0; iapply (entails_of_eq (islotP_eq c 0 f0)); iexact H0
  · iexists f1; iapply (entails_of_eq (islotP_eq c 1 f1)); iexact H1
/-- So is the write-back ring. -/
theorem oring_split :
    iprop(∃ f : Buf (Elt F) ((c : Thread nD τ).loc cc0_scoped2), ((c : Thread nD τ).loc cc0_scoped2) ↦{fullShare} f)
      ⊢ (iprop((∃ f, oslotP c 0 f) ∗ ∃ f, oslotP c 1 f) : sProp 𝕄) := by
  iintro ⟨%f, H⟩
  ihave H2 := (entails_of_eq ((Ring.pointsTo_blocks (Ix := Unit) (Name := ℕ) (U := UU nD τ) (Lvl := ℕ) (q := fullShare)
    (ℓ := (c : Thread nD τ).loc cc0_scoped2) (fun s => (slotRect s).set) slot_disjoint slot_cover f).trans (two_eq _))) $$ H
  icases H2 with ⟨H0, H1⟩
  isplitl [H0]
  · iexists f; iapply (entails_of_eq (oslotP_eq c 0 f).symm); iexact H0
  · iexists f; iapply (entails_of_eq (oslotP_eq c 1 f).symm); iexact H1
theorem oring_join :
    iprop((∃ f, oslotP c 0 f) ∗ ∃ f, oslotP c 1 f)
      ⊢ (iprop(∃ f : Buf (Elt F) ((c : Thread nD τ).loc cc0_scoped2), ((c : Thread nD τ).loc cc0_scoped2) ↦{fullShare} f) : sProp 𝕄) := by
  iintro ⟨⟨%f0, H0⟩, ⟨%f1, H1⟩⟩
  iapply (Ring.pointsTo_blocks_join_exists (ℓ := (c : Thread nD τ).loc cc0_scoped2) (fun s => (slotRect s).set) slot_disjoint slot_cover f0)
  irw [two_eq]
  isplitl [H0]
  · iexists f0; iapply (entails_of_eq (oslotP_eq c 0 f0)); iexact H0
  · iexists f1; iapply (entails_of_eq (oslotP_eq c 1 f1)); iexact H1

/-! ## The array of results -/

/-- The array of results: row `2048 b + r` is row `r` of block `b`'s tile. -/
def outArr (X : Buf (Elt F) ((c : Thread nD τ).loc main_arg0)) (w : Wts F c) : S8192x768.Idx → Elt F .f32 := fun i =>
  tileB c X w (⟨(i 0).val / 2048, by have : (i 0).val < 8192 := (i 0).isLt; omega⟩ : Fin 4)
    (ix2 (⟨(i 0).val % 2048, by omega⟩ : Fin 2048) (i 1))

theorem yblk_emb (b : Fin 4) (a : Fin 2048) (d : Fin 768) :
    (yblk b).view.emb (ix2 a d) = ix2 (⟨2048 * b.val + a.val, by omega⟩ : Fin 8192) d := by
  refine (eq_ix2 _).trans ((ix2_inj _ _ _ _).mpr ⟨Fin.ext ?_, Fin.ext ?_⟩)
  · show 2048 * b.val + 1 * a.val = _; simp
  · show 0 + 1 * d.val = _; simp
theorem yblk_read (b : Fin 4) (f : Buf (Elt F) ((c : Thread nD τ).loc main_v0)) (j : S2048x768.Idx) :
    f ((yblk b).view.emb j) = (yblk b).view.read (Elt F) f j := rfl
theorem outArr_at (X : Buf (Elt F) ((c : Thread nD τ).loc main_arg0)) (w : Wts F c) (b : Fin 4) (a : Fin 2048) (d : Fin 768) :
    outArr c X w (ix2 (⟨2048 * b.val + a.val, by omega⟩ : Fin 8192) d) = tileB c X w b (ix2 a d) := by
  have e1 : (2048 * b.val + a.val) / 2048 = b.val := by omega
  have e2 : (2048 * b.val + a.val) % 2048 = a.val := by omega
  have h : ∀ (b' : Fin 4) (a' : Fin 2048), b' = b → a' = a → tileB c X w b' (ix2 a' d) = tileB c X w b (ix2 a d) := by
    rintro _ _ rfl rfl; rfl
  exact h _ _ (Fin.ext e1) (Fin.ext e2)

/-- A block that holds its results holds that block of the array of results. -/
theorem done_out (X : Buf (Elt F) ((c : Thread nD τ).loc main_arg0)) (w : Wts F c) (b : Fin 4) :
    doneP c X w b ⊢ yblkP c b (outArr c X w) := by
  iintro ⟨%g, %hg, H⟩
  iapply (entails_of_eq (show yblkP (F := F) c b g = yblkP c b (outArr c X w) from by
    refine pointsTo_congr fun i hi => ?_
    obtain ⟨j, -, rfl⟩ := Finset.mem_map.mp hi
    idx_vars j
    refine (yblk_read c b g _).trans ((congrFun hg _).trans ?_)
    rw [yblk_emb]
    exact (outArr_at c X w b j0 j1).symm))
  iexact H
/-- All blocks holding their results, the result is held whole at the array of results. -/
theorem y_done (X : Buf (Elt F) ((c : Thread nD τ).loc main_arg0)) (w : Wts F c) :
    bigSep Finset.univ (doneP c X w) ⊢ (((c : Thread nD τ).loc main_v0) ↦{fullShare} (outArr c X w : Buf (Elt F) ((c : Thread nD τ).loc main_v0)) : sProp 𝕄) := by
  rw [y_eq]
  exact bigSep_mono fun b _ => done_out c X w b

end Cuts

end Cert.Proof.Moe

end
-- ==== Proof.Run.lean ====
/-
  The launch: from any memory with the semaphores at zero, the program ends with its arguments unchanged, the array of results in
  its result and every semaphore at zero.
-/
module

public import proofs.«01_k».proof.Proof.Cuts
public import Idealize.ShloMosaic.Lib.Pipeline.KitQuiescent

@[expose] public section

set_option maxRecDepth 16384

noncomputable section

namespace Cert.Proof.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

variable (m : (ℓ : Loc nD τ sig) → Buf (Elt F) ℓ) (ρ : Dev nD → PrngReg)

/-- The machine at launch. -/
abbrev s₁ : MemSt nD τ sig (Elt F) := ⟨m, fun _ => 0, ρ⟩
/-- A buffer's contents at launch. -/
abbrev V (c : Dev nD) (b : Ref sig .tc) : Buf (Elt F) ((c : Thread nD τ).loc b) := m ((c : Thread nD τ).loc b)
/-- The prepared weights, of the arguments at launch; and the results. -/
abbrev wAt (c : Dev nD) : Wts F c := wOf c (V m c main_arg1) (V m c main_arg2) (V m c main_arg3) (V m c main_arg4) (V m c main_arg5) (V m c main_arg6)
abbrev outAt (c : Dev nD) : Buf (Elt F) ((c : Thread nD τ).loc main_v0) := outArr c (V m c main_arg0) (wAt m c)

omit [FloatOps F] in
/-- A chain of `∗` within a chain is one chain. -/
theorem chain_assoc (P Q R : sProp 𝕄) : iprop((P ∗ Q) ∗ R) = iprop(P ∗ Q ∗ R) :=
  Std.Associative.assoc (op := fun P Q : sProp 𝕄 => BI.sep P Q) P Q R

/-- The kernel's own semaphores: thirteen of the weights' fetches, two of each ring. -/
abbrev ownSem : Fin 17 → SemLoc sig := fun i => SemLoc.dma i
theorem ownSemFacts : Pipeline.OwnSemFacts cfg0.spec ownSem := by decide

omit [FloatOps F] in
/-- They are the thirteen, and the four of the rings. -/
theorem ownSems0_eq (c : Dev nD) : (Pipeline.ownSems0 (Ix := Unit) (Name := ℕ) (U := UU nD τ) (Lvl := ℕ) (Val := Elt F) (τ := τ) ownSem c : sProp 𝕄)
    = iprop(pcells c ∗ (icell c 0 ∗ icell c 1) ∗ ocell c 0 ∗ ocell c 1) := by
  unfold Pipeline.ownSems0
  refine (bigSep_univ_eq_bigSepL [0, 1, 2, 3, 4, 5, 6, 7, 8, 9, 10, 11, 12, 13, 14, 15, 16] (by decide) (by decide) _).trans ?_
  show iprop(pcell c ![0] inb_S13_S1_0 ∗ pcell c ![1] inb_S13_S1_1 ∗ pcell c ![2] inb_S13_S1_2 ∗ pcell c ![3] inb_S13_S1_3 ∗ pcell c ![4] inb_S13_S1_4
    ∗ pcell c ![5] inb_S13_S1_5 ∗ pcell c ![6] inb_S13_S1_6 ∗ pcell c ![7] inb_S13_S1_7 ∗ pcell c ![8] inb_S13_S1_8 ∗ pcell c ![9] inb_S13_S1_9
    ∗ pcell c ![10] inb_S13_S1_10 ∗ pcell c ![11] inb_S13_S1_11 ∗ pcell c ![12] inb_S13_S1_12 ∗ icell c 0 ∗ icell c 1 ∗ ocell c 0 ∗ ocell c 1) = _
  unfold pcells
  simp only [chain_assoc]

/-- The scratch: the twelve buffers the weights go through, and the two rings. -/
theorem scoped_eq (c : Dev nD) : (Pipeline.scopedRest (Ix := Unit) (Name := ℕ) (U := UU nD τ) (Lvl := ℕ) (Val := Elt F) cfg0.spec c : sProp 𝕄)
    = iprop(scratchP (F := F) c ∗ (∃ f : Buf (Elt F) ((c : Thread nD τ).loc cc0_scoped0), ((c : Thread nD τ).loc cc0_scoped0) ↦{fullShare} f)
      ∗ ∃ f : Buf (Elt F) ((c : Thread nD τ).loc cc0_scoped2), ((c : Thread nD τ).loc cc0_scoped2) ↦{fullShare} f) := by
  rw [scopedRest0_eq]
  simp only [whole_eq]
  unfold scratchP
  simp only [chain_assoc]
/-- The arrays: `x` in its blocks, the six weight arguments, the result. -/
theorem unscoped_eq (c : Dev nD) (f : Buf (Elt F) ((c : Thread nD τ).loc main_v0)) :
    iprop((((c : Thread nD τ).loc main_arg0) ↦{fullShare} V m c main_arg0) ∗ (((c : Thread nD τ).loc main_arg1) ↦{fullShare} V m c main_arg1)
      ∗ (((c : Thread nD τ).loc main_arg2) ↦{fullShare} V m c main_arg2) ∗ (((c : Thread nD τ).loc main_arg3) ↦{fullShare} V m c main_arg3)
      ∗ (((c : Thread nD τ).loc main_arg4) ↦{fullShare} V m c main_arg4) ∗ (((c : Thread nD τ).loc main_arg5) ↦{fullShare} V m c main_arg5)
      ∗ (((c : Thread nD τ).loc main_arg6) ↦{fullShare} V m c main_arg6) ∗ (((c : Thread nD τ).loc main_v0) ↦{fullShare} f))
    = (iprop(bigSep Finset.univ (xblkP c (V m c main_arg0))
      ∗ argsP c (V m c main_arg1) (V m c main_arg2) (V m c main_arg3) (V m c main_arg4) (V m c main_arg5) (V m c main_arg6)
      ∗ (((c : Thread nD τ).loc main_v0) ↦{fullShare} f)) : sProp 𝕄) := by
  rw [x_eq]
  simp only [whole_eq]
  unfold argsP
  simp only [chain_assoc]

/-- The arguments, the scratch, the semaphores and the rings at rest: what the body starts from and ends with, but the result. -/
def restP (c : Dev nD) : sProp 𝕄 :=
  iprop(argsP c (V m c main_arg1) (V m c main_arg2) (V m c main_arg3) (V m c main_arg4) (V m c main_arg5) (V m c main_arg6)
    ∗ scratchP (F := F) c ∗ pcells c ∗ bigSep Finset.univ (xblkP c (V m c main_arg0)) ∗ ringsP (F := F) c)
/-- The result at contents `f`, beside it. -/
def Φf (c : Dev nD) (f : Buf (Elt F) ((c : Thread nD τ).loc main_v0)) : sProp 𝕄 :=
  iprop(restP m c ∗ (((c : Thread nD τ).loc main_v0) ↦{fullShare} f))

def dats (_ : Fin 1) (c : Dev nD) : Dat τ (Elt F) Unit ℕ (UU nD τ) ℕ cfg0 c where
  A w := m _
  after w t := w.elim0
  Φ k := Φf m c (if k.val = 0 then V m c main_v0 else outAt m c)
  q _ := fullShare
  owed _ := 0

theorem Φ_first (c : Dev nD) (k) (h : k.val = 0) : (dats m 0 c).Φ k = Φf m c (V m c main_v0) := congrArg (Φf m c) (if_pos h)
theorem Φ_last (c : Dev nD) (k) (h : k.val ≠ 0) : (dats m 0 c).Φ k = Φf m c (outAt m c) := congrArg (Φf m c) (if_neg h)

theorem defs_tc : (defs₀ (F := F)) .tc cfg0.body = fun a => bodyAt0 (F := F) a.1 := rfl
theorem prog_eq (t : Fin cfg0.N) : (defs₀ (F := F)) .tc cfg0.body (cfg0.bodyArgs t (cfg0.slots t)) = bodyAt0 (F := F) t :=
  (congrFun defs_tc _).trans rfl

set_option backward.isDefEq.respectTransparency.types false in
/-- The body, at the one point: from the launch's contents to the results. -/
theorem body_obligation (c : Dev nD) : BodyObligation (dats (F := F) m 0 c) (defs₀ (F := F)) 𝒱₀ () Set.univ := fun t => by
  have ht : t.val = 0 := by have := t.isLt; have e : cfg0.N = 1 := N_0; omega
  dsimp only
  rw [Φ_first m c t.castSucc ht, Φ_last m c t.succ (Nat.succ_ne_zero _)]
  unfold Dat.owesAt Pipeline.owesWithin
  rw [show (dats m 0 c).owed t.castSucc = 0 from rfl, show (dats m 0 c).owed t.succ = 0 from rfl]
  unfold Φf restP
  iintro ⟨⟨⟨HA, HS, HC, HX, HR⟩, HY⟩, ⟨%W, -, HW⟩, HE⟩
  sl_rw [prog_eq t]
  iapply (wp_wand_r Idealize.ShloMosaic.frame (wpE (defs₀ (F := F)) 𝒱₀ (c : Thread nD τ) none) Set.univ)
  isplitl [HA HS HC HX HR HY HW]
  · iapply (bodyRun c (V m c main_arg0) (V m c main_v0) (V m c main_arg1) (V m c main_arg2) (V m c main_arg3) (V m c main_arg4) (V m c main_arg5) (V m c main_arg6) W t)
    isplitl [HA]; · iexact HA
    isplitl [HS]; · iexact HS
    isplitl [HC]; · iexact HC
    isplitl [HW]; · iexact HW
    isplitl [HX]; · iexact HX
    isplitl [HR]; · iexact HR
    iapply (entails_of_eq (y_eq c (V m c main_v0))); iexact HY
  · iintro %u ⟨HA, HS, HC, ⟨%W', HW⟩, HX, HR, HD⟩
    isplitl [HA HS HC HX HR HD]
    · isplitl [HA HS HC HX HR]
      · isplitl [HA]; · iexact HA
        isplitl [HS]; · iexact HS
        isplitl [HC]; · iexact HC
        isplitl [HX]; · iexact HX
        iexact HR
      · iapply (y_done c (V m c main_arg0) (wAt m c)); iexact HD
    isplitl [HW]
    · iexists W'; isplitr; · ipureintro; exact fun _ _ => Or.inl trivial
      iexact HW
    iexact HE

/-! ## The run -/

/-- The arguments at their contents at launch, and the result at contents `f`. -/
def endP (c : Dev nD) (f : Buf (Elt F) ((c : Thread nD τ).loc main_v0)) : sProp 𝕄 :=
  iprop((((c : Thread nD τ).loc main_arg0) ↦{fullShare} V m c main_arg0) ∗ (((c : Thread nD τ).loc main_arg1) ↦{fullShare} V m c main_arg1)
    ∗ (((c : Thread nD τ).loc main_arg2) ↦{fullShare} V m c main_arg2) ∗ (((c : Thread nD τ).loc main_arg3) ↦{fullShare} V m c main_arg3)
    ∗ (((c : Thread nD τ).loc main_arg4) ↦{fullShare} V m c main_arg4) ∗ (((c : Thread nD τ).loc main_arg5) ↦{fullShare} V m c main_arg5)
    ∗ (((c : Thread nD τ).loc main_arg6) ↦{fullShare} V m c main_arg6) ∗ (((c : Thread nD τ).loc main_v0) ↦{fullShare} f))

/-- From the arrays, the semaphores and the scratch to what the body starts from; -/
theorem rest_in (c : Dev nD) (f) :
    iprop((endP m c f ∗ Pipeline.ownSems0 ownSem c) ∗ Pipeline.scopedRest (Ix := Unit) (Name := ℕ) (U := UU nD τ) (Lvl := ℕ) (Val := Elt F) cfg0.spec c)
      ⊢ Φf m c f := by
  unfold endP Φf restP
  rw [ownSems0_eq, scoped_eq, unscoped_eq]
  iintro ⟨⟨⟨HX, HA, HY⟩, HC, ⟨I0, I1⟩, O0, O1⟩, HS, HI, HO⟩
  ihave HI2 := (iring_split c) $$ HI
  ihave HO2 := (oring_split c) $$ HO
  icases HI2 with ⟨J0, J1⟩
  icases HO2 with ⟨P0, P1⟩
  isplitr [HY]
  · isplitl [HA]; · iexact HA
    isplitl [HS]; · iexact HS
    isplitl [HC]; · iexact HC
    isplitl [HX]; · iexact HX
    isplitl [I0 J0 I1 J1]
    · isplitl [I0 J0]
      · isplitl [I0]; · iexact I0
        iexact J0
      · isplitl [I1]; · iexact I1
        iexact J1
    isplitl [O0 P0]
    · isplitl [O0]; · iexact O0
      iexact P0
    · isplitl [O1]; · iexact O1
      iexact P1
  · iexact HY
/-- and back. -/
theorem rest_out (c : Dev nD) (f) :
    Φf m c f ⊢ iprop(endP m c f ∗ Pipeline.ownSems0 ownSem c
      ∗ Pipeline.scopedRest (Ix := Unit) (Name := ℕ) (U := UU nD τ) (Lvl := ℕ) (Val := Elt F) cfg0.spec c) := by
  unfold endP Φf restP
  rw [ownSems0_eq, scoped_eq, unscoped_eq]
  iintro ⟨⟨HA, HS, HC, HX, ⟨⟨I0, J0⟩, ⟨I1, J1⟩⟩, ⟨O0, P0⟩, ⟨O1, P1⟩⟩, HY⟩
  isplitl [HX HA HY]
  · isplitl [HX]; · iexact HX
    isplitl [HA]; · iexact HA
    iexact HY
  isplitl [HC I0 I1 O0 O1]
  · isplitl [HC]; · iexact HC
    isplitl [I0 I1]
    · isplitl [I0]; · iexact I0
      iexact I1
    · isplitl [O0]; · iexact O0
      iexact O1
  isplitl [HS]; · iexact HS
  isplitl [J0 J1]
  · iapply (iring_join c)
    isplitl [J0]; · iexact J0
    iexact J1
  · iapply (oring_join c)
    isplitl [P0]; · iexact P0
    iexact P1

def u₀ : UU nD τ := (initOf (Pipeline.cells cfgs Cert.KernelIdeal.Gen.cellOf_inj) (Pipeline.launchToks cfgs Cert.KernelIdeal.Gen.cellOf_inj), 1)

/-- What holds of a core's arrays at the end: the arguments unchanged, the array of results in the result. -/
def QY (c : Dev nD) (s : MemSt nD τ sig (Elt F)) : Prop :=
  (s.mem ((c : Thread nD τ).loc main_arg0) = V m c main_arg0 ∧ s.mem ((c : Thread nD τ).loc main_arg1) = V m c main_arg1
    ∧ s.mem ((c : Thread nD τ).loc main_arg2) = V m c main_arg2 ∧ s.mem ((c : Thread nD τ).loc main_arg3) = V m c main_arg3
    ∧ s.mem ((c : Thread nD τ).loc main_arg4) = V m c main_arg4 ∧ s.mem ((c : Thread nD τ).loc main_arg5) = V m c main_arg5
    ∧ s.mem ((c : Thread nD τ).loc main_arg6) = V m c main_arg6)
  ∧ s.mem ((c : Thread nD τ).loc main_v0) = outAt m c

set_option backward.isDefEq.respectTransparency.types false in
/-- At any float values, from any memory with the semaphores at zero, every weakly fair execution of the program ends, and at
    its end every core's arguments are unchanged, its result is the array of results, and every semaphore is at zero. -/
theorem run_main : θ_run defs (onTc (τ := τ) (main (F := F))) (s₁ m ρ) (fun r => (∀ c, QY m c r.2) ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := fun c b => m ((c : Thread nD τ).loc b))
    (hmain := fun c Q => by
      simp only [main, Prog.lift, Prog.bind_op, Prog.bind_ret]
      iintro ⟨Hk, Hb⟩; iapply Hk; iexact Hb)
    (hA := fun _ w => w.elim0)
    (X := fun c => iprop(endP m c (V m c main_v0) ∗ Pipeline.ownSems0 ownSem c)) (Y := fun c => endP m c (outAt m c)) (Z := fun _ => iprop(emp))
    (hX := fun c => by
      rw [unscopedRest0_eq]
      unfold endP
      iintro ⟨H0, HS, -, -, -⟩; imodintro
      isplitl [H0 HS]
      · isplitl [H0]; · iexact H0
        iexact HS
      iempintro)
    (hin := fun c => by rw [Φ_first m c 0 rfl]; exact rest_in m c _)
    (hout := fun c => by rw [Φ_last m c (Fin.last cfg0.N) (by decide)]; exact rest_out m c _)
    (QY := QY m)
    (hY := fun c s' => by
      unfold endP QY
      iintro ⟨⟨H0, H1, H2, H3, H4, H5, H6, HY⟩, -, HSI⟩
      icombine HSI H0 gives %h0
      icombine HSI H1 gives %h1
      icombine HSI H2 gives %h2
      icombine HSI H3 gives %h3
      icombine HSI H4 gives %h4
      icombine HSI H5 gives %h5
      icombine HSI H6 gives %h6
      icombine HSI HY gives %h7
      imodintro
      isplitr
      · ipureintro
        exact ⟨⟨Buf.eq_of_forall_mem_univ h0, Buf.eq_of_forall_mem_univ h1, Buf.eq_of_forall_mem_univ h2, Buf.eq_of_forall_mem_univ h3,
          Buf.eq_of_forall_mem_univ h4, Buf.eq_of_forall_mem_univ h5, Buf.eq_of_forall_mem_univ h6⟩, Buf.eq_of_forall_mem_univ h7⟩
      iexact HSI)
    (hQ := fun _ hh hz => ⟨fun c => (hh c).2, hz⟩)

end Cert.Proof.Moe

end
-- ==== Proof.Gate.lean ====
/-
  The softmax gate over the extended reals. With finite logits the eight weights of a token are between zero and one.
-/
module

public import Idealize.ShloMosaic.Lib.Pointwise

@[expose] public section

noncomputable section

namespace Cert.Proof.Moe

open Idealize.ShloMosaic

/-- An affine map of a row: what a dense layer computes at one output. -/
def affine {n : Nat} (x w : Fin n → EReal) (b : EReal) : EReal := (∑ k, x k * w k) + b

/-- The largest of eight numbers. -/
def top (l : Fin 8 → EReal) : EReal := Finset.univ.fold max ⊥ l

/-- The weight of expert `e` under the logits `l`. -/
def gate (l : Fin 8 → EReal) (e : Fin 8) : EReal :=
  Ideal.div (Ideal.exp (l e - top l)) (∑ e', Ideal.exp (l e' - top l))

/-- The word of minus infinity denotes it, and so does that of infinity. -/
theorem neg_inf : Ideal.ofBits .f32 0xFF800000#32 = (⊥ : EReal) := by
  simp [Ideal.ofBits, Ideal.ieee]
theorem pos_inf : Ideal.ofBits .f32 0x7F800000#32 = (⊤ : EReal) := by
  simp [Ideal.ofBits, Ideal.ieee]

/-- A number that is neither infinity. -/
def IsReal (x : EReal) : Prop := ∃ r : ℝ, x = r

/-! Sums and products of real numbers are real. -/

theorem coe_sum {ι : Type} (s : Finset ι) (r : ι → ℝ) : ((∑ i ∈ s, r i : ℝ) : EReal) = ∑ i ∈ s, (r i : EReal) :=
  map_sum (⟨⟨Real.toEReal, EReal.coe_zero⟩, EReal.coe_add⟩ : ℝ →+ EReal) r s

theorem real_sum {ι : Type} (s : Finset ι) (f : ι → EReal) (h : ∀ i, IsReal (f i)) : IsReal (∑ i ∈ s, f i) := by
  choose r hr using h
  exact ⟨∑ i ∈ s, r i, by rw [coe_sum]; exact Finset.sum_congr rfl fun i _ => hr i⟩
theorem real_mul {x y : EReal} : IsReal x → IsReal y → IsReal (x * y) := by
  rintro ⟨r, rfl⟩ ⟨t, rfl⟩; exact ⟨r * t, (EReal.coe_mul r t).symm⟩
theorem real_add {x y : EReal} : IsReal x → IsReal y → IsReal (x + y) := by
  rintro ⟨r, rfl⟩ ⟨t, rfl⟩; exact ⟨r + t, (EReal.coe_add r t).symm⟩

theorem affine_real {n : Nat} {x w : Fin n → EReal} {b : EReal} (hx : ∀ k, IsReal (x k)) (hw : ∀ k, IsReal (w k)) (hb : IsReal b) :
    IsReal (affine x w b) :=
  real_add (real_sum _ _ fun k => real_mul (hx k) (hw k)) hb

theorem top_eq (l : Fin 8 → EReal) : top l = Finset.univ.sup l := rfl

/-- The largest of eight real numbers is real. -/
theorem top_real {l : Fin 8 → EReal} (h : ∀ e, IsReal (l e)) : IsReal (top l) := by
  obtain ⟨e, -, he⟩ := Finset.exists_mem_eq_sup Finset.univ ⟨0, Finset.mem_univ _⟩ l
  rw [top_eq, he]; exact h e

/-- A weight is a nonnegative real. -/
theorem gate_real {l : Fin 8 → EReal} (h : ∀ e, IsReal (l e)) (e : Fin 8) : 0 ≤ gate l e ∧ gate l e ≠ ⊤ := by
  obtain ⟨m, hm⟩ := top_real h
  choose r hr using h
  have hexp : ∀ e, Ideal.exp (l e - top l) = (Real.exp (r e - m) : EReal) := fun e => by
    rw [hr e, hm, ← EReal.coe_sub]; rfl
  have hsum : (∑ e', Ideal.exp (l e' - top l)) = ((∑ e', Real.exp (r e' - m) : ℝ) : EReal) := by
    rw [coe_sum]; exact Finset.sum_congr rfl fun e _ => hexp e
  have hpos : 0 < ∑ e', Real.exp (r e' - m) := Finset.sum_pos (fun _ _ => Real.exp_pos _) ⟨0, Finset.mem_univ _⟩
  have hg : gate l e = ((Real.exp (r e - m) * (∑ e', Real.exp (r e' - m))⁻¹ : ℝ) : EReal) := by
    rw [gate, hsum, hexp, Ideal.div, if_neg (by exact_mod_cast hpos.ne'), ← EReal.coe_inv, ← EReal.coe_mul]
  rw [hg]
  exact ⟨EReal.coe_nonneg.mpr (mul_nonneg (Real.exp_pos _).le (inv_nonneg.mpr hpos.le)), EReal.coe_ne_top _⟩

/-- A nonnegative factor below infinity may be multiplied into a sum. -/
theorem sum_mul_of_real {ι : Type} (s : Finset ι) (f : ι → EReal) {g : EReal} (h0 : 0 ≤ g) (h1 : g ≠ ⊤) :
    (∑ i ∈ s, f i) * g = ∑ i ∈ s, f i * g := by
  classical
  induction s using Finset.induction_on with
  | empty => simp
  | insert a s ha ih =>
    rw [Finset.sum_insert ha, Finset.sum_insert ha, EReal.right_distrib_of_nonneg_of_ne_top h0 h1, ih]

/-- Taking the larger of minus infinity and the largest changes nothing. -/
theorem max_top (l : Fin 8 → EReal) : max ⊥ (top l) = top l := max_eq_right bot_le

end Cert.Proof.Moe

end
-- ==== Proof.Weights.lean ====
/-
  The prepared weights at an index, over the extended reals: each is an element of an argument, and the table of which
  expert a hidden column belongs to holds ones and zeros.
-/
module

public import Idealize.ShloMosaic.Lib.Pointwise
public import proofs.«01_k».proof.Proof.Prep

@[expose] public section

set_option maxRecDepth 16384

noncomputable section

namespace Cert.Proof.Moe

open Cert.KernelIdeal Cert.KernelIdeal.Gen
open Idealize.ShloMosaic

/-- Column `f` of expert `e`, among the 512 hidden columns. -/
def col (e : Fin 8) (f : Fin 64) : Fin 512 := ⟨e.val * 64 + f.val, by omega⟩

/-- Eight pieces of 64 laid end to end, read at column `f` of piece `e`. -/
theorem pieces_at {α : Type} (p : Fin 8 → Fin 64 → α) (e : Fin 8) (f : Fin 64) {k : Nat} (hk : k = e.val * 64 + f.val) :
    (if h : k < 64 then p 0 ⟨k, h⟩
      else if h : k - 64 < 64 then p 1 ⟨k - 64, h⟩
      else if h : k - 64 - 64 < 64 then p 2 ⟨k - 64 - 64, h⟩
      else if h : k - 64 - 64 - 64 < 64 then p 3 ⟨k - 64 - 64 - 64, h⟩
      else if h : k - 64 - 64 - 64 - 64 < 64 then p 4 ⟨k - 64 - 64 - 64 - 64, h⟩
      else if h : k - 64 - 64 - 64 - 64 - 64 < 64 then p 5 ⟨k - 64 - 64 - 64 - 64 - 64, h⟩
      else if h : k - 64 - 64 - 64 - 64 - 64 - 64 < 64 then p 6 ⟨k - 64 - 64 - 64 - 64 - 64 - 64, h⟩
      else p 7 ⟨k - 64 - 64 - 64 - 64 - 64 - 64 - 64, by omega⟩) = p e f := by
  have key : ∀ (e' : Fin 8) (f' : Fin 64), e' = e → f' = f → p e' f' = p e f := by
    rintro _ _ rfl rfl; rfl
  split_ifs <;> refine key _ _ (Fin.ext ?_) (Fin.ext ?_) <;> first | omega | (simp <;> omega)

/-! ## Each prepared buffer at an index -/

theorem w1Of_at (G : FVec Ideal S8x768x64 .f32) (d : Fin 768) (e : Fin 8) (f : Fin 64) :
    (w1Of G (ix2 d (col e f)) : EReal) = G (ix3 e d f) := by
  generalize hk : col e f = k
  pointwise [w1Of, k0_pay6, k0_pay5, slab1]
  exact pieces_at (fun e f => (G (ix3 e d f) : EReal)) e f (congrArg Fin.val hk).symm

theorem b1Of_at (G : FVec Ideal S8x64 .f32) (e : Fin 8) (f : Fin 64) :
    (b1Of G (ix2 0 (col e f)) : EReal) = G (ix2 e f) := by
  generalize hk : col e f = k
  pointwise [b1Of, k0_pay7, k0_pay8, k0_pay9, k0_pay10, k0_pay11, k0_pay12, row1]
  exact pieces_at (fun e f => (G (ix2 e f) : EReal)) e f (congrArg Fin.val hk).symm

theorem w2Of_at (G : FVec Ideal S8x64x768 .f32) (e : Fin 8) (f : Fin 64) (d : Fin 768) :
    (w2Of G (ix2 (col e f) d) : EReal) = G (ix3 e f d) := by
  generalize hk : col e f = k
  pointwise [w2Of, k0_pay14, stacked]
  subst hk
  refine congrArg G ((ix3_inj _ _ _ _ _ _).mpr ⟨Fin.ext ?_, Fin.ext ?_, rfl⟩)
  · show (e.val * 64 + f.val) / 64 = e.val; omega
  · show (e.val * 64 + f.val) % 64 = f.val; omega

theorem b2Of_at (G : FVec Ideal S8x768 .f32) (e : Fin 8) (d : Fin 768) :
    (b2Of G (ix2 e d) : EReal) = G (ix2 e d) := by
  pointwise [b2Of, k0_pay15]

theorem wgOf_at (G : FVec Ideal S768x8 .f32) (d : Fin 768) (e : Fin 8) :
    (wgOf G (ix2 d e) : EReal) = G (ix2 d e) := by
  pointwise [wgOf, k0_pay13]

/-- The word a table entry is converted from: whether the column's quotient by 64, rounded down, is the expert. -/
def selWord (e k : BitVec 32) : BitVec 32 :=
  BitVec.setWidth 32
    (IntOp.cmpi CmpIPredicate.eq
      (Scalar.select
        (IntOp.andi
          (IntOp.cmpi CmpIPredicate.ne
            (IntOp.subi (BitVec.setWidth 32 (IntOp.cmpi CmpIPredicate.sgt k 0#32)) (BitVec.setWidth 32 (IntOp.cmpi CmpIPredicate.slt k 0#32)))
            (Scalar.subi (Scalar.extui (Scalar.cmpi CmpIPredicate.sgt 64#32 0#32)) (Scalar.extui (Scalar.cmpi CmpIPredicate.slt 64#32 0#32))))
          (IntOp.cmpi CmpIPredicate.ne (IntOp.remsi ArithUnit.vector k 64#32) 0#32))
        (IntOp.subi (IntOp.divsi ArithUnit.vector k 64#32) 1#32)
        (IntOp.divsi ArithUnit.vector k 64#32))
      e)

/-- It is one when the column is the expert's and zero otherwise, at every expert and column. -/
theorem selWord_eq : ∀ (e : Fin 8) (k : Fin 512),
    selWord (BitVec.ofNat 32 e.val) (BitVec.ofNat 32 k.val) = if k.val / 64 = e.val then 1#32 else 0#32 := by
  decide +kernel

/-- The table at an index. -/
theorem selOf_at (e e' : Fin 8) (f : Fin 64) :
    (selOf (F := Ideal) (ix2 e (col e' f)) : EReal) = if e' = e then 1 else 0 := by
  have hw : selWord (BitVec.ofNat 32 e.val) (BitVec.ofNat 32 (col e' f).val) = if e' = e then 1#32 else 0#32 := by
    rw [selWord_eq]
    have : (col e' f).val / 64 = e.val ↔ e' = e := by
      rw [Fin.ext_iff]; simp only [col]; omega
    simp only [this]
  generalize hk : col e' f = k at hw ⊢
  pointwise [selOf, k0_pay18, k0_pay16, k0_pay17]
  refine (congrArg (fun v : BitVec 32 => (FloatOps.sitofp (F := Ideal) FTy.f32 v : EReal)) hw).trans ?_
  split_ifs
  · show (((1#32 : BitVec 32).toInt : ℝ) : EReal) = 1
    simp
  · show (((0#32 : BitVec 32).toInt : ℝ) : EReal) = 0
    simp

end Cert.Proof.Moe

end
-- ==== Proof.Mix.lean ====
/-
  The mixture: what the reference computes at one token and one output, and the kernel's way of adding it up.
-/
module

public import proofs.«01_k».proof.Proof.Gate
public import proofs.«01_k».proof.Proof.Weights

@[expose] public section

set_option maxRecDepth 16384

noncomputable section

namespace Cert.Proof.Moe

open Idealize.ShloMosaic

/-- The experts' outputs, each times its weight, added up. -/
def mix (g : Fin 8 → EReal) (h V : Fin 8 → Fin 64 → EReal) (B : Fin 8 → EReal) : EReal :=
  ∑ e, ((∑ f, V e f * h e f) + B e) * g e

/-- The kernel weighs each hidden column by its expert's weight, which it looks up in a table of ones and zeros, and
    takes one product over all 512 columns and one over the eight second biases. -/
theorem mix_eq {g : Fin 8 → EReal} (hg : ∀ e, 0 ≤ g e ∧ g e ≠ ⊤) (H V : Fin 512 → EReal) (S : Fin 8 → Fin 512 → EReal) (B : Fin 8 → EReal)
    (hS : ∀ e e' f, S e (col e' f) = if e' = e then 1 else 0) :
    (∑ k, (H k * ∑ e, g e * S e k) * V k) + ∑ e, g e * B e
      = mix g (fun e f => H (col e f)) (fun e f => V (col e f)) B := by
  have hw : ∀ e f, (∑ e', g e' * S e' (col e f)) = g e := fun e f => by
    simp only [hS, mul_ite, mul_one, mul_zero, Finset.sum_ite_eq, Finset.mem_univ, if_true]
  have hcut : (∑ k, (H k * ∑ e, g e * S e k) * V k) = ∑ e : Fin 8, ∑ f : Fin 64, (V (col e f) * H (col e f)) * g e := by
    refine (Fin.sum_univ_tiles 8 64 rfl _).trans (Finset.sum_congr rfl fun e _ => Finset.sum_congr rfl fun f _ => ?_)
    refine (congrArg (fun z => (H (col e f) * z) * V (col e f)) (hw e f)).trans ?_
    rw [mul_comm, mul_assoc]
  rw [hcut, ← Finset.sum_add_distrib]
  refine Finset.sum_congr rfl fun e _ => ?_
  rw [EReal.right_distrib_of_nonneg_of_ne_top (hg e).1 (hg e).2, sum_mul_of_real _ _ (hg e).1 (hg e).2, mul_comm (g e)]

end Cert.Proof.Moe

end
-- ==== Proof.Tile.lean ====
/-
  The tile of results at an index, over the extended reals.
-/
module

public import proofs.«01_k».proof.Proof.Mix
public import proofs.«01_k».proof.Proof.Cuts

@[expose] public section

set_option maxRecDepth 16384

noncomputable section

namespace Cert.Proof.Moe

open Cert.KernelIdeal Cert.KernelIdeal.Gen
open Idealize.ShloMosaic

section
variable (x : FVec Ideal S2048x768 .f32) (wg : FVec Ideal S768x8 .bf16) (bg : FVec Ideal S8 .f32)
  (w1 : FVec Ideal S768x512 .bf16) (b1 : FVec Ideal S1x512 .bf16) (sel : FVec Ideal S8x512 .bf16) (w2 : FVec Ideal S512x768 .bf16)
  (b2 : FVec Ideal S8x768 .bf16) (g : FVec Ideal S2048x8 .bf16) (h : FVec Ideal S2048x512 .bf16)

/-- The weights of the token in row `a`. -/
theorem gates_at (a : Fin 2048) (e : Fin 8) :
    (k0_pay2 (F := Ideal) (shapeCast S1x2048x768 x shapeCasts_S2048x768_S1x2048x768) wg bg (ix2 a e) : EReal)
      = gate (fun e => affine (fun i => x (ix2 a i)) (fun i => wg (ix2 i e)) (bg (ix1 e))) e := by
  pointwise [k0_pay1, k0_pay2]
  rw [neg_inf]
  rfl

/-- Its hidden columns before the bias. -/
theorem hidden_at (a : Fin 2048) (k : Fin 512) :
    (k0_pay3 (F := Ideal) (shapeCast S1x2048x768 x shapeCasts_S2048x768_S1x2048x768) w1 (ix2 a k) : EReal)
      = ∑ i, (x (ix2 a i) : EReal) * w1 (ix2 i k) := by
  pointwise [k0_pay1, k0_pay3]

/-- The two products that end in the result. -/
theorem last_at (a : Fin 2048) (d : Fin 768) :
    (shapeCast S2048x768 (k0_pay4 (F := Ideal) g h b1 sel w2 b2) shapeCasts_S1x2048x768_S2048x768 (ix2 a d) : EReal)
      = (∑ k, (max ((h (ix2 a k) : EReal) + b1 (ix2 0 k)) 0 * ∑ e, (g (ix2 a e) : EReal) * sel (ix2 e k)) * w2 (ix2 k d))
        + ∑ e, (g (ix2 a e) : EReal) * b2 (ix2 e d) := by
  pointwise [k0_pay4]

end

section
variable (c : Dev nD) (G1 : FVec Ideal S768x8 .f32) (G2 : FVec Ideal S8 .f32) (G3 : FVec Ideal S8x768x64 .f32) (G4 : FVec Ideal S8x64 .f32)
  (G5 : FVec Ideal S8x64x768 .f32) (G6 : FVec Ideal S8x768 .f32) (t : FVec Ideal S2048x768 .f32)

/-- A tile of results, from the arguments, is the mixture, where the gate's weights are nonnegative and finite. -/
theorem tile_at (a : Fin 2048) (d : Fin 768)
    (hg : ∀ e, 0 ≤ gate (fun e => affine (fun i => t (ix2 a i)) (fun i => G1 (ix2 i e)) (G2 (ix1 e))) e
      ∧ gate (fun e => affine (fun i => t (ix2 a i)) (fun i => G1 (ix2 i e)) (G2 (ix1 e))) e ≠ ⊤) :
    (tileOut c (wOf c G1 G2 G3 G4 G5 G6) t (ix2 a d) : EReal)
      = mix (gate fun e => affine (fun i => t (ix2 a i)) (fun i => G1 (ix2 i e)) (G2 (ix1 e)))
          (fun e f => max (affine (fun i => t (ix2 a i)) (fun i => G3 (ix3 e i f)) (G4 (ix2 e f))) 0)
          (fun e f => G5 (ix3 e f d)) (fun e => G6 (ix2 e d)) := by
  refine (last_at _ _ _ _ _ _ a d).trans ?_
  have eg : ∀ e, (k0_pay2 (F := Ideal) (shapeCast S1x2048x768 t shapeCasts_S2048x768_S1x2048x768) (wgOf G1) G2 (ix2 a e) : EReal)
      = gate (fun e => affine (fun i => t (ix2 a i)) (fun i => G1 (ix2 i e)) (G2 (ix1 e))) e := fun e => by
    rw [gates_at]; simp only [wgOf_at]
  have eh : ∀ e f, (k0_pay3 (F := Ideal) (shapeCast S1x2048x768 t shapeCasts_S2048x768_S1x2048x768) (w1Of G3) (ix2 a (col e f)) : EReal)
      = ∑ i, (t (ix2 a i) : EReal) * G3 (ix3 e i f) := fun e f => by
    rw [hidden_at]; simp only [w1Of_at]
  simp only [wOf, eg, b2Of_at]
  refine (mix_eq hg _ _ _ _ selOf_at).trans ?_
  simp only [eh, b1Of_at, w2Of_at]
  rfl

end

end Cert.Proof.Moe

end
-- ==== Proof.RefValue.lean ====
/-
  What the reference computes at an index, over the extended reals: the mixture.
-/
module

public import proofs.«01_k».proof.Proof.Mix
public import proofs.«01_k».proof.Proof.Gen.ReferenceIdeal
public import proofs.«01_k».proof.ReferenceIdeal

@[expose] public section

set_option maxRecDepth 16384

noncomputable section

namespace Cert.Proof.Moe.Ref

open Cert.ReferenceIdeal Cert.ReferenceIdeal.Gen Cert.ReferenceIdeal.Facts
open Idealize.ShloMosaic

variable (x : FVec Ideal S8192x768 .f32) (Wg : FVec Ideal S768x8 .f32) (bg : FVec Ideal S8 .f32) (W1 : FVec Ideal S8x768x64 .f32)
  (b1 : FVec Ideal S8x64 .f32) (W2 : FVec Ideal S8x64x768 .f32) (b2 : FVec Ideal S8x768 .f32)

/-! ## The reference's stages -/

def logits : FVec Ideal S8192x8 .f32 :=
  addf (Host.dotGeneral dot_S8192x768_S768x8_S8192x8_1_0_0_1_n_n none x Wg)
    (broadcastInDim S8192x8 ![0, 1] bcast_S1x8_S8192x8_0_1 (broadcastInDim S1x8 ![1] bcast_S8_S1x8_1 bg))

def exps (L : FVec Ideal S8192x8 .f32) : FVec Ideal S8192x8 .f32 :=
  Host.exp (subf L (broadcastInDim S8192x8 ![0, 1] bcast_S8192x1_S8192x8_0_1 (broadcastInDim S8192x1 ![0] bcast_S8192_S8192x1_0
    (maximumf (broadcastInDim S8192 ![] bcast_S_S8192 (constant S_ .f32 0xFF800000#32))
      (Host.reduce FloatOps.maximumf L (constant S_ .f32 0xFF800000#32) reducesTo_S8192x8_S8192_d1 h_S_)))))

def gates (E : FVec Ideal S8192x8 .f32) : FVec Ideal S8192x8 .f32 :=
  Host.divf E (broadcastInDim S8192x8 ![0, 1] bcast_S8192x1_S8192x8_0_1 (broadcastInDim S8192x1 ![0] bcast_S8192_S8192x1_0
    (Host.reduceAdd E (constant S_ .f32 0x00000000#32) reducesTo_S8192x8_S8192_d1 h_S_)))

def hidden : FVec Ideal S8192x8x64 .f32 :=
  maximumf (addf (Host.dotGeneral dot_S8192x768_S8x768x64_S8192x8x64_1_1_0_02_n_n none x W1)
      (broadcastInDim S8192x8x64 ![0, 1, 2] bcast_S1x8x64_S8192x8x64_0_1_2 (broadcastInDim S1x8x64 ![1, 2] bcast_S8x64_S1x8x64_1_2 b1)))
    (broadcastInDim S8192x8x64 ![] bcast_S_S8192x8x64 (constant S_ .f32 0x00000000#32))

def experts (H : FVec Ideal S8192x8x64 .f32) : FVec Ideal S8192x8x768 .f32 :=
  addf (transpose S8192x8x768 [2, 0, 1] (Host.dotGeneral dot_S8x64x768_S8192x8x64_S8x768x8192_1_2_2_0_0_1 none W2 H)
      transposes_S8x768x8192_S8192x8x768_2_0_1)
    (broadcastInDim S8192x8x768 ![0, 1, 2] bcast_S1x8x768_S8192x8x768_0_1_2 (broadcastInDim S1x8x768 ![1, 2] bcast_S8x768_S1x8x768_1_2 b2))

def total (O : FVec Ideal S8192x8x768 .f32) (g : FVec Ideal S8192x8 .f32) : FVec Ideal S8192x768 .f32 :=
  Host.reduceAdd (mulf O (broadcastInDim S8192x8x768 ![0, 1, 2] bcast_S8192x8x1_S8192x8x768_0_1_2
    (broadcastInDim S8192x8x1 ![0, 1] bcast_S8192x8_S8192x8x1_0_1 g))) (constant S_ .f32 0x00000000#32) reducesTo_S8192x8x768_S8192x768_d1 h_S_

/-- The reference's result. -/
def out : FVec Ideal S8192x768 .f32 :=
  total (experts W2 b2 (hidden x W1 b1)) (gates (exps (logits x Wg bg)))

/-! ## Each stage at an index -/

theorem logits_at (n : Fin 8192) (e : Fin 8) :
    (logits x Wg bg (ix2 n e) : EReal) = affine (fun i => x (ix2 n i)) (fun i => Wg (ix2 i e)) (bg (ix1 e)) := by
  pointwise [logits]
  rfl

theorem exps_at (L : FVec Ideal S8192x8 .f32) (n : Fin 8192) (e : Fin 8) :
    (exps L (ix2 n e) : EReal) = Ideal.exp (L (ix2 n e) - top fun e => L (ix2 n e)) := by
  pointwise [exps]
  rw [neg_inf]
  exact congrArg (fun z => Ideal.exp ((L (ix2 n e) : EReal) - z)) (max_top fun e => L (ix2 n e))

theorem gates_at (E : FVec Ideal S8192x8 .f32) (n : Fin 8192) (e : Fin 8) :
    (gates E (ix2 n e) : EReal) = Ideal.div (E (ix2 n e)) (∑ e', (E (ix2 n e') : EReal)) := by
  pointwise [gates]

theorem hidden_at (n : Fin 8192) (e : Fin 8) (f : Fin 64) :
    (hidden x W1 b1 (ix3 n e f) : EReal)
      = max (affine (fun i => x (ix2 n i)) (fun i => W1 (ix3 e i f)) (b1 (ix2 e f))) 0 := by
  pointwise [hidden]
  rfl

theorem experts_at (H : FVec Ideal S8192x8x64 .f32) (n : Fin 8192) (e : Fin 8) (d : Fin 768) :
    (experts W2 b2 H (ix3 n e d) : EReal) = (∑ f, (W2 (ix3 e f d) : EReal) * H (ix3 n e f)) + b2 (ix2 e d) := by
  pointwise [experts]

theorem total_at (O : FVec Ideal S8192x8x768 .f32) (g : FVec Ideal S8192x8 .f32) (n : Fin 8192) (d : Fin 768) :
    (total O g (ix2 n d) : EReal) = ∑ e, (O (ix3 n e d) : EReal) * g (ix2 n e) := by
  pointwise [total]

/-- The reference's result is the mixture. -/
theorem out_at (n : Fin 8192) (d : Fin 768) :
    (out x Wg bg W1 b1 W2 b2 (ix2 n d) : EReal)
      = mix (gate fun e => affine (fun i => x (ix2 n i)) (fun i => Wg (ix2 i e)) (bg (ix1 e)))
          (fun e f => max (affine (fun i => x (ix2 n i)) (fun i => W1 (ix3 e i f)) (b1 (ix2 e f))) 0)
          (fun e f => W2 (ix3 e f d)) (fun e => b2 (ix2 e d)) := by
  refine (total_at _ _ n d).trans (Finset.sum_congr rfl fun e _ => ?_)
  rw [experts_at, gates_at]
  simp only [exps_at, logits_at, hidden_at]
  rfl

end Cert.Proof.Moe.Ref

end
-- ==== Proof.Equation.lean ====
/-
  The equation: the kernel's array of results is the reference's result, where the gate's arguments are real numbers.
-/
module

public import proofs.«01_k».proof.Proof.Tile
public import proofs.«01_k».proof.Proof.RefValue

@[expose] public section

set_option maxRecDepth 16384

noncomputable section

namespace Cert.Proof.Moe

open Cert.KernelIdeal Cert.KernelIdeal.Gen
open Idealize.ShloMosaic

section
variable (c : Dev nD) (X : FVec Ideal S8192x768 .f32) (G1 : FVec Ideal S768x8 .f32) (G2 : FVec Ideal S8 .f32) (G3 : FVec Ideal S8x768x64 .f32)
  (G4 : FVec Ideal S8x64 .f32) (G5 : FVec Ideal S8x64x768 .f32) (G6 : FVec Ideal S8x768 .f32)

/-- Row `a` of block `b` of the tokens is row `2048 b + a`. -/
theorem xtile_at (b : Fin 4) (a : Fin 2048) (i : Fin 768) (n : Fin 8192) (hn : 2048 * b.val + a.val = n.val) :
    (xtile (F := Ideal) c X b (ix2 a i) : EReal) = X (ix2 n i) := by
  refine congrArg X ((eq_ix2 _).trans ((ix2_inj _ _ _ _).mpr ⟨Fin.ext ?_, Fin.ext ?_⟩))
  · show 2048 * b.val + 1 * a.val = _; omega
  · show 0 + 1 * i.val = _; simp

/-- So is row `2048 b + a` of the results row `a` of block `b`'s. -/
theorem out_row (w : Wts Ideal c) (b : Fin 4) (a : Fin 2048) (d : Fin 768) (n : Fin 8192) (hn : 2048 * b.val + a.val = n.val) :
    outArr c X w (ix2 n d) = tileB c X w b (ix2 a d) := by
  have h := outArr_at c X w b a d
  generalize hn' : (⟨2048 * b.val + a.val, by omega⟩ : Fin 8192) = n' at h
  obtain rfl : n' = n := Fin.ext (by rw [← hn']; exact hn)
  exact h

/-- The kernel's result at an index is the mixture. -/
theorem kernel_at (hX : ∀ i, IsReal (X i)) (h1 : ∀ i, IsReal (G1 i)) (h2 : ∀ i, IsReal (G2 i)) (n : Fin 8192) (d : Fin 768) :
    (outArr (F := Ideal) c X (wOf c G1 G2 G3 G4 G5 G6) (ix2 n d) : EReal)
      = mix (gate fun e => affine (fun i => X (ix2 n i)) (fun i => G1 (ix2 i e)) (G2 (ix1 e)))
          (fun e f => max (affine (fun i => X (ix2 n i)) (fun i => G3 (ix3 e i f)) (G4 (ix2 e f))) 0)
          (fun e f => G5 (ix3 e f d)) (fun e => G6 (ix2 e d)) := by
  obtain ⟨b, a, hn⟩ : ∃ (b : Fin 4) (a : Fin 2048), 2048 * b.val + a.val = n.val :=
    ⟨⟨n.val / 2048, by omega⟩, ⟨n.val % 2048, by omega⟩, Nat.div_add_mod _ _⟩
  have hx : ∀ i, (xtile (F := Ideal) c X b (ix2 a i) : EReal) = X (ix2 n i) := fun i => xtile_at c X b a i n hn
  rw [out_row c X _ b a d n hn]
  have ht := tile_at c G1 G2 G3 G4 G5 G6 (xtile (F := Ideal) c X b) a d
  simp only [hx] at ht
  exact ht fun e => gate_real (fun e => affine_real (fun i => hX _) (fun i => h1 _) (h2 _)) e

/-- So the two results are one array. -/
theorem out_eq (hX : ∀ i, IsReal (X i)) (h1 : ∀ i, IsReal (G1 i)) (h2 : ∀ i, IsReal (G2 i)) :
    outArr c X (wOf c G1 G2 G3 G4 G5 G6) = Ref.out X G1 G2 G3 G4 G5 G6 := by
  funext j
  rw [eq_ix2 j]
  exact (kernel_at c X G1 G2 G3 G4 G5 G6 hX h1 h2 (j 0) (j 1)).trans (Ref.out_at X G1 G2 G3 G4 G5 G6 (j 0) (j 1)).symm

end

end Cert.Proof.Moe

end
-- ==== Proof.Finite.lean ====
/-
  The precondition read: the tokens and the gate's weights and bias hold real numbers.
-/
module

public import Idealize.ShloMosaic.Lib.Pointwise
public import Idealize.ShloMosaic.Lib.ReduceAll
public import proofs.«01_k».proof.Proof.Gate
public import proofs.«01_k».proof.Proof.Gen.Pre_gate_arguments_finite
public import proofs.«01_k».proof.Pre_gate_arguments_finite

@[expose] public section

set_option maxRecDepth 16384

noncomputable section

namespace Cert.Proof.Moe

open Cert.Pre_gate_arguments_finite Cert.Pre_gate_arguments_finite.Gen
open Idealize.ShloMosaic

/-- A number whose absolute value is below infinity is real. -/
theorem real_of_abs {x : EReal} (h : max x (-x) < ⊤) : IsReal x := by
  induction x using EReal.rec with
  | bot => simp at h
  | top => simp at h
  | coe r => exact ⟨r, rfl⟩

/-- So it is when the comparison's bit is set. -/
theorem real_of_bit {x : EReal} (h : Ideal.cmp .olt (max x (-x)) (Ideal.ofBits .f32 0x7F800000#32) = 1#1) : IsReal x := by
  rw [pos_inf] at h
  refine real_of_abs ?_
  by_contra hn
  simp [Ideal.cmp, hn] at h

/-- The precondition says that these three arguments are real at every index. -/
theorem real_of_pre (x : FVec Ideal S8192x768 .f32) (Wg : FVec Ideal S768x8 .f32) (bg : FVec Ideal S8 .f32) (W1 : FVec Ideal S8x768x64 .f32)
    (b1 : FVec Ideal S8x64 .f32) (W2 : FVec Ideal S8x64x768 .f32) (b2 : FVec Ideal S8x768 .f32)
    (h : fn (F := Ideal) x Wg bg W1 b1 W2 b2 = fun _ => 1#1) :
    (∀ i, IsReal (x i)) ∧ (∀ i, IsReal (Wg i)) ∧ ∀ i, IsReal (bg i) := by
  have e := congrFun h (fun a => a.elim0)
  obtain ⟨e, e3⟩ := IntOp.andi_eq_one.1 e
  obtain ⟨e1, e2⟩ := IntOp.andi_eq_one.1 e
  exact ⟨fun i => real_of_bit (Host.reduce_andi_all _ _ _ _ _ e1 i), fun i => real_of_bit (Host.reduce_andi_all _ _ _ _ _ e2 i),
    fun i => real_of_bit (Host.reduce_andi_all _ _ _ _ _ e3 i)⟩

end Cert.Proof.Moe

end
-- ==== Proof.lean ====
/-
  The claims: both kernel programs and the reference run and leave their arguments and counters as they were, and the kernel
  computes the reference's function wherever the gate's arguments are finite.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_gate_arguments_finite
public import proofs.«01_k».proof.Proof.Gen.ReferenceIdeal.Run
public import proofs.«01_k».proof.Proof.Run
public import proofs.«01_k».proof.Proof.Equation
public import proofs.«01_k».proof.Proof.Finite
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

/-- The kernel over words runs, its arguments unchanged and its counters at zero. -/
theorem frame_kernel : Cert.quiescent_Kernel := fun m ρ _ =>
  (θ_run Cert.KernelIdeal.defs _ _).mono (fun _ h => ⟨fun c => (h.1 c).1, h.2⟩) (Moe.run_main (F := Bits) m ρ)
/-- So does the kernel over the extended reals. -/
theorem frame_ideal : Cert.quiescent_KernelIdeal := fun m ρ _ =>
  (θ_run Cert.KernelIdeal.defs _ _).mono (fun _ h => ⟨fun c => (h.1 c).1, h.2⟩) (Moe.run_main (F := Ideal) m ρ)

/-- So does the reference, which has no counters. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Where the gate's arguments are finite, the kernel's result is the reference's. -/
theorem equal : Cert.algebraic_KernelIdeal_ReferenceIdeal_pre_gate_arguments_finite := by
  intro m g m' g' hpre hargs
  refine ⟨fun c => Moe.outAt m c, (θ_run Cert.KernelIdeal.defs _ _).mono (fun _ h c => ⟨(h.1 c).2, (h.1 c).1⟩) (Moe.run_main (F := Ideal) m g),
    (θ_run Cert.ReferenceIdeal.defs _ _).mono (fun r h c => ⟨(h c).1.trans ?_, (h c).2⟩) (Cert.ReferenceIdeal.Value.run (F := Ideal) m' g')⟩
  obtain ⟨hx, hw, hb⟩ := Moe.real_of_pre _ _ _ _ _ _ _ (hpre c)
  obtain ⟨e0, e1, e2, e3, e4, e5, e6⟩ := hargs c
  rw [e0, e1, e2, e3, e4, e5, e6]
  exact (Moe.out_eq c _ _ _ _ _ _ _ hx hw hb).symm

theorem claim : Cert.Claim :=
  ⟨Cert.Kernel.Gen.facts, Cert.KernelIdeal.Gen.facts, Cert.ReferenceIdeal.Gen.facts, Cert.Pre_gate_arguments_finite.Gen.facts, frame_kernel,
    frame_ideal, fun m ρ _ => frame_ideal m ρ trivial, frame_ref, fun m ρ _ => frame_ref m ρ trivial, trivial, equal⟩

end Cert.Proof

end
